-- ==== Defs.lean ====
def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal (hKernelIdeal := hKernelIdeal) (hReferenceIdeal := hReferenceIdeal) (hPre_finite := hPre_finite)
-- ==== Pre_finite.lean ====
abbrev S1024x32 : Shape := ⟨2, ![1024, 32]⟩
abbrev S100000x32 : Shape := ⟨2, ![100000, 32]⟩
abbrev S100000x3 : Shape := ⟨2, ![100000, 3]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x32 .f32) (main_arg1 : FVec F S100000x32 .f32) (main_arg2 : FVec F S100000x3 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== KernelIdeal.lean ====
abbrev S1024x32 : Shape := ⟨2, ![1024, 32]⟩
abbrev S100000x32 : Shape := ⟨2, ![100000, 32]⟩
abbrev S100000x3 : Shape := ⟨2, ![100000, 3]⟩
abbrev S1024x8 : Shape := ⟨2, ![1024, 8]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩
abbrev S1024x5 : Shape := ⟨2, ![1024, 5]⟩
abbrev S1024x3 : Shape := ⟨2, ![1024, 3]⟩
abbrev S_ : Shape := ⟨0, ![]⟩
abbrev S100000x16 : Shape := ⟨2, ![100000, 16]⟩
abbrev S3072 : Shape := ⟨1, ![3072]⟩
abbrev S3072x1 : Shape := ⟨2, ![3072, 1]⟩
abbrev S3072x16 : Shape := ⟨2, ![3072, 16]⟩
abbrev S1024x16 : Shape := ⟨2, ![1024, 16]⟩
abbrev S96 : Shape := ⟨1, ![96]⟩
abbrev S96x16 : Shape := ⟨2, ![96, 16]⟩
abbrev S32x16 : Shape := ⟨2, ![32, 16]⟩
abbrev S1x16 : Shape := ⟨2, ![1, 16]⟩
abbrev S16 : Shape := ⟨1, ![16]⟩

abbrev nBuf : Table → Nat
  | .hbm => 16
  | .local .tc .vmem => 11
  | .local .scVector .vmem => 4
  | _ => 0

abbrev bufTy : (tb : Table) → Fin (nBuf tb) → BufTy
  | .hbm, ⟨0, _⟩ => ⟨S1024x32, .f32⟩
  | .hbm, ⟨1, _⟩ => ⟨S100000x32, .f32⟩
  | .hbm, ⟨2, _⟩ => ⟨S100000x3, .f32⟩
  | .hbm, ⟨3, _⟩ => ⟨S1024x8, .f32⟩
  | .hbm, ⟨4, _⟩ => ⟨S1024x8, .i32⟩
  | .hbm, ⟨5, _⟩ => ⟨S1024x3, .f32⟩
  | .hbm, ⟨6, _⟩ => ⟨S1024x3, .i32⟩
  | .hbm, ⟨7, _⟩ => ⟨S_, .i32⟩
  | .hbm, ⟨8, _⟩ => ⟨S_, .f32⟩
  | .hbm, ⟨9, _⟩ => ⟨S100000x16, .f32⟩
  | .hbm, ⟨10, _⟩ => ⟨S3072, .f32⟩
  | .hbm, ⟨11, _⟩ => ⟨S3072x1, .f32⟩
  | .hbm, ⟨12, _⟩ => ⟨S3072x16, .f32⟩
  | .hbm, ⟨13, _⟩ => ⟨S3072, .i32⟩
  | .hbm, ⟨14, _⟩ => ⟨S1024x16, .f32⟩
  | .hbm, ⟨15, _⟩ => ⟨S1024x3, .f32⟩
  | .local .tc .vmem, ⟨0, _⟩ => ⟨S1024x32, .f32⟩
  | .local .tc .vmem, ⟨1, _⟩ => ⟨S1024x32, .f32⟩
  | .local .tc .vmem, ⟨2, _⟩ => ⟨S1024x32, .f32⟩
  | .local .tc .vmem, ⟨3, _⟩ => ⟨S1024x8, .f32⟩
  | .local .tc .vmem, ⟨4, _⟩ => ⟨S1024x8, .i32⟩
  | .local .tc .vmem, ⟨5, _⟩ => ⟨S1024x1, .f32⟩
  | .local .tc .vmem, ⟨6, _⟩ => ⟨S1024x1, .i32⟩
  | .local .tc .vmem, ⟨7, _⟩ => ⟨S1024x1, .f32⟩
  | .local .tc .vmem, ⟨8, _⟩ => ⟨S1024x1, .i32⟩
  | .local .tc .vmem, ⟨9, _⟩ => ⟨S1024x1, .f32⟩
  | .local .tc .vmem, ⟨10, _⟩ => ⟨S1024x1, .i32⟩
  | .local .scVector .vmem, ⟨0, _⟩ => ⟨S96, .i32⟩
  | .local .scVector .vmem, ⟨1, _⟩ => ⟨S96x16, .f32⟩
  | .local .scVector .vmem, ⟨2, _⟩ => ⟨S96x16, .f32⟩
  | .local .scVector .vmem, ⟨3, _⟩ => ⟨S32x16, .f32⟩
  | _, _ => ⟨S1024x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v7_scv : Ref sig .scVector := ⟨.hbm, 13, rfl⟩
abbrev main_v6_scv : Ref sig .scVector := ⟨.hbm, 12, rfl⟩
abbrev main_v3_scv : Ref sig .scVector := ⟨.hbm, 9, rfl⟩
abbrev main_v8_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![98], ![false]⟩

def k0_cond2 (i : grid0.Coords) : BitVec 1 :=
  let arg0 : BitVec 32 := BitVec.ofNat 32 (i 0).val
  let c97_i32 : BitVec 32 := 97#32
  let v121 : BitVec 1 := Scalar.cmpi .eq arg0 c97_i32
  let v122 : BitVec 32 := Scalar.extui v121
  let c0_i32_42 : BitVec 32 := 0#32
  let v123 : BitVec 1 := Scalar.cmpi .ne v122 c0_i32_42
  v123

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_357_r1 : BitVec 32 := 0#32
  ![v2.toNat, 0]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_356 : BitVec 32 := 32#32
  let v869 : BitVec 32 := Scalar.muli v1 c32_i32_356
  let c0_i32_357_r2 : BitVec 32 := 0#32
  ![v869.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x32 : Shape := ⟨2, ![1024, 32]⟩
abbrev S100000x32 : Shape := ⟨2, ![100000, 32]⟩
abbrev S100000x3 : Shape := ⟨2, ![100000, 3]⟩
abbrev S32x100000 : Shape := ⟨2, ![32, 100000]⟩
abbrev S1024x100000 : Shape := ⟨2, ![1024, 100000]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S1024x3 : Shape := ⟨2, ![1024, 3]⟩
abbrev S3072 : Shape := ⟨1, ![3072]⟩
abbrev S3072x1 : Shape := ⟨2, ![3072, 1]⟩
abbrev S1 : Shape := ⟨1, ![1]⟩
abbrev S1x1 : Shape := ⟨2, ![1, 1]⟩
abbrev S3072x3 : Shape := ⟨2, ![3072, 3]⟩
abbrev S1024x3x3 : Shape := ⟨3, ![1024, 3, 3]⟩
abbrev S1024x3x1 : Shape := ⟨3, ![1024, 3, 1]⟩

abbrev nBuf : Space → Nat
  | .hbm => 68
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S100000x3, .f32⟩
  | .hbm, ⟨3, _⟩ => ⟨S32x100000, .f32⟩
  | .hbm, ⟨4, _⟩ => ⟨S1024x100000, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S100000x32, .f32⟩
  | .hbm, ⟨10, _⟩ => ⟨S_, .f32⟩
  | .hbm, ⟨11, _⟩ => ⟨S100000, .f32⟩
  | .hbm, ⟨12, _⟩ => ⟨S100000x1, .f32⟩
  | .hbm, ⟨13, _⟩ => ⟨S_, .f32⟩
  | .hbm, ⟨14, _⟩ => ⟨S1024x100000, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S1x100000, .f32⟩
  | .hbm, ⟨19, _⟩ => ⟨S1024x100000, .f32⟩
  | .hbm, ⟨20, _⟩ => ⟨S1024x100000, .f32⟩
  | .hbm, ⟨21, _⟩ => ⟨S1024x100000, .f32⟩
  | .hbm, ⟨22, _⟩ => ⟨S1024x3, .f32⟩
  | .hbm, ⟨23, _⟩ => ⟨S1024x3, .i32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024x1, .f32⟩
  | .hbm, ⟨30, _⟩ => ⟨S1024x3, .f32⟩
  | .hbm, ⟨31, _⟩ => ⟨S1024x3, .f32⟩
  | .hbm, ⟨32, _⟩ => ⟨S1024x3, .f32⟩
  | .hbm, ⟨33, _⟩ => ⟨S_, .f32⟩
  | .hbm, ⟨34, _⟩ => ⟨S1024, .f32⟩
  | .hbm, ⟨35, _⟩ => ⟨S1024x1, .f32⟩
  | .hbm, ⟨36, _⟩ => ⟨S1024x3, .f32⟩
  | .hbm, ⟨37, _⟩ => ⟨S1024x3, .f32⟩
  | .hbm, ⟨38, _⟩ => ⟨S3072, .i32⟩
  | .hbm, ⟨39, _⟩ => ⟨S_, .i32⟩
  | .hbm, ⟨40, _⟩ => ⟨S3072, .i32⟩
  | .hbm, ⟨41, _⟩ => ⟨S3072, .i1⟩
  | .hbm, ⟨42, _⟩ => ⟨S_, .i32⟩
  | .hbm, ⟨43, _⟩ => ⟨S3072, .i32⟩
  | .hbm, ⟨44, _⟩ => ⟨S3072, .i32⟩
  | .hbm, ⟨45, _⟩ => ⟨S3072, .i32⟩
  | .hbm, ⟨46, _⟩ => ⟨S3072x1, .i32⟩
  | .hbm, ⟨47, _⟩ => ⟨S1, .i32⟩
  | .hbm, ⟨48, _⟩ => ⟨S_, .i32⟩
  | .hbm, ⟨49, _⟩ => ⟨S3072x1, .i32⟩
  | .hbm, ⟨50, _⟩ => ⟨S3072x1, .i1⟩
  | .hbm, ⟨51, _⟩ => ⟨S1x1, .i32⟩
  | .hbm, ⟨52, _⟩ => ⟨S3072x1, .i32⟩
  | .hbm, ⟨53, _⟩ => ⟨S3072x1, .i1⟩
  | .hbm, ⟨54, _⟩ => ⟨S3072x1, .i1⟩
  | .hbm, ⟨55, _⟩ => ⟨S_, .i1⟩
  | .hbm, ⟨56, _⟩ => ⟨S3072, .i1⟩
  | .hbm, ⟨57, _⟩ => ⟨S3072x3, .f32⟩
  | .hbm, ⟨58, _⟩ => ⟨S3072x3, .i1⟩
  | .hbm, ⟨59, _⟩ => ⟨S_, .f32⟩
  | .hbm, ⟨60, _⟩ => ⟨S3072x3, .f32⟩
  | .hbm, ⟨61, _⟩ => ⟨S3072x3, .f32⟩
  | .hbm, ⟨62, _⟩ => ⟨S1024x3x3, .f32⟩
  | .hbm, ⟨63, _⟩ => ⟨S1024x3x1, .f32⟩
  | .hbm, ⟨64, _⟩ => ⟨S1024x3x3, .f32⟩
  | .hbm, ⟨65, _⟩ => ⟨S1024x3x3, .f32⟩
  | .hbm, ⟨66, _⟩ => ⟨S_, .f32⟩
  | .hbm, ⟨67, _⟩ => ⟨S1024x3, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩

abbrev nD : Nat := 1
abbrev τ : Topo := Topo.v7x

variable {F : FTy → Type} [FloatOps F]
-- ==== Proof.Setup.lean ====
/-
  The kernel as the launch theorem of SparseCore programs sees it, its resource algebra, the buffers of the SparseCore
  call and their split among the thirty-two tiles.

  @main runs one TensorCore pipeline (the distances and the running three nearest), some host operations, and one
  SparseCore call (the weighted sum of gathered rows). The algebra has three parts: the handshakes' rounds, the
  pipeline's rounds, the counters of the tiles' copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch decides of the handshakes' semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds. -/
abbrev EH : Emb UH (MT nD τ sig (HIx 1) (Elt F) ℕ UU ℕ) := embL
/-- The pipeline's rounds. -/
abbrev EP : Emb UP (MT nD τ sig (HIx 1) (Elt F) ℕ UU ℕ) := (Emb.inl : Emb UP (UP × Counters)).trans embR

example : (EH (F := F)).LandsIn (upEmb : UEmb _ 𝕄) := inferInstance
instance EP_landsIn : (EP (F := F)).LandsIn (upEmb : UEmb _ 𝕄) := by unfold EP; infer_instance

/-! ## The buffers of the SparseCore call -/

abbrev iLoc (d : Dev nD) : Loc nD τ sig := (SparseCore.T d).loc main_v7
abbrev wLoc (d : Dev nD) : Loc nD τ sig := (SparseCore.T d).loc main_v6
abbrev tLoc (d : Dev nD) : Loc nD τ sig := (SparseCore.T d).loc main_v3
abbrev oLoc (d : Dev nD) : Loc nD τ sig := (SparseCore.T d).loc main_v8

/-- Index `(a, b)` of a matrix. -/
abbrev i2 {n k : ℕ} (a : Fin n) (b : Fin k) : (⟨2, ![n, k]⟩ : Shape).Idx :=
  fun | 0 => a | 1 => b
/-- Index `a` of a list. -/
abbrev i1 {n : ℕ} (a : Fin n) : (⟨1, ![n]⟩ : Shape).Idx := fun | 0 => a

/-- Row `3 q + k` of the flattened lists: query `q`'s neighbour `k`. -/
def nb (q : Fin 1024) (k : Fin 3) : Fin 3072 := ⟨3 * q.val + k.val, by omega⟩

/-- The row of the table that the list names at `r`. -/
def rowNo (ix : S3072.Idx → BitVec 32) (r : Fin 3072) : Fin 100000 := Fin.ofNat 100000 (ix (i1 r)).toNat

section Combine
variable [FloatOps F]

/-- One neighbour's term: its weight times the table's row that the list names. -/
def term (ix : S3072.Idx → BitVec 32) (w : S3072x16.Idx → F .f32) (tb : S100000x16.Idx → F .f32) (r : Fin 3072) (l : Fin 16) : F .f32 :=
  FloatOps.mulf (w (i2 r l)) (tb (i2 (rowNo ix r) l))

/-- What the SparseCore call computes: row `q` is the sum of its three neighbours' terms. -/
def combine (ix : S3072.Idx → BitVec 32) (w : S3072x16.Idx → F .f32) (tb : S100000x16.Idx → F .f32) : S1024x16.Idx → F .f32 := fun x =>
  FloatOps.addf (FloatOps.addf (term ix w tb (nb (x 0) 0) (x 1)) (term ix w tb (nb (x 0) 1) (x 1))) (term ix w tb (nb (x 0) 2) (x 1))

end Combine

abbrev iV : Memref Cert.KernelIdeal.sig Kind.scVector Space.hbm Cert.KernelIdeal.S3072 EltTy.i32 := Memref.whole Cert.KernelIdeal.main_v7_scv
abbrev wV : Memref Cert.KernelIdeal.sig Kind.scVector Space.hbm Cert.KernelIdeal.S3072x16 EltTy.f32 := Memref.whole Cert.KernelIdeal.main_v6_scv
abbrev tV : Memref Cert.KernelIdeal.sig Kind.scVector Space.hbm Cert.KernelIdeal.S100000x16 EltTy.f32 := Memref.whole Cert.KernelIdeal.main_v3_scv
abbrev oV : Memref Cert.KernelIdeal.sig Kind.scVector Space.hbm Cert.KernelIdeal.S1024x16 EltTy.f32 := Memref.whole Cert.KernelIdeal.main_v8_scv
abbrev sI : Memref Cert.KernelIdeal.sig Kind.scVector Space.vmem Cert.KernelIdeal.S96 EltTy.i32 := Memref.whole Cert.KernelIdeal.cc1_scratch0
abbrev sW : Memref Cert.KernelIdeal.sig Kind.scVector Space.vmem Cert.KernelIdeal.S96x16 EltTy.f32 := Memref.whole Cert.KernelIdeal.cc1_scratch1
abbrev sR : Memref Cert.KernelIdeal.sig Kind.scVector Space.vmem Cert.KernelIdeal.S96x16 EltTy.f32 := Memref.whole Cert.KernelIdeal.cc1_scratch2
abbrev sO : Memref Cert.KernelIdeal.sig Kind.scVector Space.vmem Cert.KernelIdeal.S32x16 EltTy.f32 := Memref.whole Cert.KernelIdeal.cc1_scratch3

theorem idiv : 32 ∣ S3072.size 0 := ⟨96, rfl⟩
theorem wdiv : 32 ∣ S3072x16.size 0 := ⟨96, rfl⟩
theorem odiv : 32 ∣ S1024x16.size 0 := ⟨32, rfl⟩
abbrev irow (i : Fin 32) : Rect S3072 := Rect.part (s := S3072) (a₀ := 0) idiv i
abbrev wrow (i : Fin 32) : Rect S3072x16 := Rect.part (s := S3072x16) (a₀ := 0) wdiv i
abbrev orow (i : Fin 32) : Rect S1024x16 := Rect.part (s := S1024x16) (a₀ := 0) odiv i
abbrev iRowSet (i : Fin 32) : Finset S3072.Idx := ((iV).view.slice (irow i)).set
abbrev wRowSet (i : Fin 32) : Finset S3072x16.Idx := ((wV).view.slice (wrow i)).set
abbrev oRowSet (i : Fin 32) : Finset S1024x16.Idx := ((oV).view.slice (orow i)).set

/-! ## What the handshakes carry

The call takes the list of rows, the weights, read shares of the table and the result buffer, one piece per tile; each
tile brings back its rows of the result at `combine`. -/

/-- Tile `(c, i)`'s place among the thirty-two. -/
def wid (c : Fin 2) (i : Fin 16) : Fin 32 := ⟨2 * i.val + c.val, by omega⟩

variable (ix : (d : Dev nD) → Buf (Elt F) (iLoc d)) (w : (d : Dev nD) → Buf (Elt F) (wLoc d)) (tb : (d : Dev nD) → Buf (Elt F) (tLoc d))
  (o₀ : (d : Dev nD) → Buf (Elt F) (oLoc d))

abbrev iRowPts (d : Dev nD) (i : Fin 32) : sProp 𝕄 := iLoc d ↦[iRowSet i]{fullShare} ix d
abbrev wRowPts (d : Dev nD) (i : Fin 32) : sProp 𝕄 := wLoc d ↦[wRowSet i]{fullShare} w d
abbrev tShPts (d : Dev nD) (i : Fin 32) : sProp 𝕄 := tLoc d ↦{Transfers.shareTok fullShare 32 i} tb d
abbrev oRowPts (d : Dev nD) (i : Fin 32) (f : Buf (Elt F) (oLoc d)) : sProp 𝕄 := oLoc d ↦[oRowSet i]{fullShare} f

/-- What tile number `i` is handed. -/
abbrev inPts (d : Dev nD) (i : Fin 32) : sProp 𝕄 :=
  iprop(iRowPts ix d i ∗ wRowPts w d i ∗ tShPts tb d i ∗ oRowPts d i (o₀ d))

variable [FloatOps F]

/-- What it brings back. -/
abbrev outPts (d : Dev nD) (i : Fin 32) : sProp 𝕄 := oRowPts d i (combine (ix d) (w d) (tb d))

def P : (K (F := F)).Pay (nD := nD) (Val := Elt F) (Name := ℕ) (U := UU) where
  st := fun q d c => match q with | 0 => iprop(bigSep Finset.univ fun i : Fin 16 => inPts ix w tb o₀ d (wid (Fin.cast nCore_zero c) i))
  dn := fun q d c => match q with | 0 => iprop(bigSep Finset.univ fun i : Fin 16 => outPts ix w tb d (wid (Fin.cast nCore_zero c) i))
  go := fun q d c i => match q with | 0 => inPts ix w tb o₀ d (wid (Fin.cast nCore_zero c) (Fin.cast nSub_zero i))
  td := fun q d c i => match q with | 0 => outPts ix w tb d (wid (Fin.cast nCore_zero c) (Fin.cast nSub_zero i))
  x := fun _ _ => iprop(emp)

instance P_storable : (P (F := F) ix w tb o₀).IsStorable where
  st q d c := match q with
    | 0 => (inferInstance : BI.Storable (upEmb : UEmb _ 𝕄) iprop(bigSep Finset.univ fun i : Fin 16 => inPts ix w tb o₀ d (wid (Fin.cast nCore_zero c) i)))
  dn q d c := match q with
    | 0 => (inferInstance : BI.Storable (upEmb : UEmb _ 𝕄) iprop(bigSep Finset.univ fun i : Fin 16 => outPts ix w tb d (wid (Fin.cast nCore_zero c) i)))
  go q d c i := match q with
    | 0 => (inferInstance : BI.Storable (upEmb : UEmb _ 𝕄) (inPts ix w tb o₀ d (wid (Fin.cast nCore_zero c) (Fin.cast nSub_zero i))))
  td q d c i := match q with
    | 0 => (inferInstance : BI.Storable (upEmb : UEmb _ 𝕄) (outPts ix w tb d (wid (Fin.cast nCore_zero c) (Fin.cast nSub_zero i))))

end Cert.Proof

end
-- ==== Proof.Topk.lean ====
/-
  The running three nearest as the TensorCore kernel keeps them: six columns, one row per query, updated block by
  block of the targets. The update is spelt with the kernel's own operations; what it computes is a later module's.
-/
module

public import proofs.«01_k».proof.Proof.Setup
public import proofs.«01_k».proof.Proof.Gen.KernelIdeal.Launch
public import proofs.«01_k».proof.Proof.Gen.KernelIdeal.Points
public import Idealize.ShloMosaic.Lib.Pipeline.Value
public import Idealize.ShloMosaic.Lib.Pipeline.FrameBody
public import Idealize.ShloMosaic.Lib.WordCmp

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The six columns: the three least distances so far and the targets they belong to. -/
structure St (F : FTy → Type) where
  v0 : S1024x1.Idx → F .f32
  i0 : S1024x1.Idx → BitVec 32
  v1 : S1024x1.Idx → F .f32
  i1 : S1024x1.Idx → BitVec 32
  v2 : S1024x1.Idx → F .f32
  i2 : S1024x1.Idx → BitVec 32

variable [FloatOps F]

/-- The columns before the first block. -/
def St.init : St F := ⟨k0_pay3, k0_pay6, k0_pay4, k0_pay7, k0_pay5, k0_pay8⟩

/-- One block's update, from the block's target numbers `g` and its distances `dd`. -/
def St.upd (g : S1024x1024.Idx → BitVec 32) (dd : S1024x1024.Idx → F .f32) (s : St F) : St F where
  v0 := k0_pay39 (k0_pay28 g dd s.v0) (k0_pay34 g dd)
  i0 := k0_pay40 g (k0_pay24 g dd) (k0_pay28 g dd s.v0) (k0_pay29 g dd s.v0 s.i0) (k0_pay34 g dd)
  v1 := k0_pay41 (k0_pay28 g dd s.v0) (k0_pay30 g dd s.v0 s.v1) (k0_pay34 g dd)
  i1 := k0_pay42 g (k0_pay24 g dd) (k0_pay28 g dd s.v0) (k0_pay29 g dd s.v0 s.i0) (k0_pay30 g dd s.v0 s.v1)
    (k0_pay31 g dd s.v0 s.i0 s.v1 s.i1) (k0_pay34 g dd)
  v2 := k0_pay43 (k0_pay30 g dd s.v0 s.v1) (k0_pay32 g dd s.v0 s.v1 s.v2) (k0_pay34 g dd)
  i2 := k0_pay44 g (k0_pay24 g dd) (k0_pay30 g dd s.v0 s.v1) (k0_pay31 g dd s.v0 s.i0 s.v1 s.i1)
    (k0_pay32 g dd s.v0 s.v1 s.v2) (k0_pay33 g dd s.v0 s.i0 s.v1 s.i1 s.v2 s.i2) (k0_pay34 g dd)

/-- The update at grid point `i`, from the queries' features `sf` and the block `tf` of the targets'. -/
def St.step (i : grid0.Coords) (sf tf : S1024x32.Idx → F .f32) (s : St F) : St F := s.upd (k0_pay9 i) (k0_pay10 i sf tf)

/-- The weights and the target numbers that the kernel writes from the columns. -/
def St.w (s : St F) : S1024x8.Idx → F .f32 := k0_pay1 s.v0 s.v1 s.v2
def St.ix (s : St F) : S1024x8.Idx → BitVec 32 := k0_pay2 s.i0 s.i1 s.i2

/-- The columns as the kernel's scratch holds them, on core `c`. -/
def scr (c : Dev nD) (s : St F) : sProp 𝕄 :=
  iprop(((c : Thread nD τ).loc cc0_scratch0 ↦{fullShare} s.v0) ∗ ((c : Thread nD τ).loc cc0_scratch1 ↦{fullShare} s.i0)
    ∗ ((c : Thread nD τ).loc cc0_scratch2 ↦{fullShare} s.v1) ∗ ((c : Thread nD τ).loc cc0_scratch3 ↦{fullShare} s.i1)
    ∗ ((c : Thread nD τ).loc cc0_scratch4 ↦{fullShare} s.v2) ∗ ((c : Thread nD τ).loc cc0_scratch5 ↦{fullShare} s.i2))

/-! ## One run of the body -/

/-- The body's first condition: it is at the grid's first point. -/
theorem first_cond (i : grid0.Coords) :
    Iff (Scalar.cmpi .ne (Scalar.extui (Scalar.cmpi .eq (BitVec.ofNat 32 (i 0).val) 0#32) : BitVec 32) 0#32 = 1#1) ((i 0).val = 0) := by
  have h : (i 0).val < 98 := (i 0).isLt
  generalize (i 0).val = k at h ⊢
  interval_cases k <;> decide

abbrev sc0 : Memref Cert.KernelIdeal.sig Kind.tc Space.vmem Cert.KernelIdeal.S1024x1 EltTy.f32 := Memref.whole Cert.KernelIdeal.cc0_scratch0
abbrev sc1 : Memref Cert.KernelIdeal.sig Kind.tc Space.vmem Cert.KernelIdeal.S1024x1 EltTy.i32 := Memref.whole Cert.KernelIdeal.cc0_scratch1
abbrev sc2 : Memref Cert.KernelIdeal.sig Kind.tc Space.vmem Cert.KernelIdeal.S1024x1 EltTy.f32 := Memref.whole Cert.KernelIdeal.cc0_scratch2
abbrev sc3 : Memref Cert.KernelIdeal.sig Kind.tc Space.vmem Cert.KernelIdeal.S1024x1 EltTy.i32 := Memref.whole Cert.KernelIdeal.cc0_scratch3
abbrev sc4 : Memref Cert.KernelIdeal.sig Kind.tc Space.vmem Cert.KernelIdeal.S1024x1 EltTy.f32 := Memref.whole Cert.KernelIdeal.cc0_scratch4
abbrev sc5 : Memref Cert.KernelIdeal.sig Kind.tc Space.vmem Cert.KernelIdeal.S1024x1 EltTy.i32 := Memref.whole Cert.KernelIdeal.cc0_scratch5

theorem off0 : (![0, 0] : Fin 2 → Nat) = fun _ => 0 := funext fun a => by fin_cases a <;> rfl

/-- A whole load of a buffer reads its contents. -/
abbrev R1 : Rect S1024x1 := Rect.unit (s := S1024x1) ![0, 0] S1024x1.size inb_S1024x1_S1024x1_0_0
abbrev R32 : Rect S1024x32 := Rect.unit (s := S1024x32) ![0, 0] S1024x32.size inb_S1024x32_S1024x32_0_0
abbrev R8 : Rect S1024x8 := Rect.unit (s := S1024x8) ![0, 0] S1024x8.size inb_S1024x8_S1024x8_0_0
theorem rd0 (f) : (sc0).view.readAt (Elt F) R1.toLoadRect f = f := Memref.readAt_unit_zero (Elt F) cc0_scratch0 off0 _ f
theorem rd1 (f) : (sc1).view.readAt (Elt F) R1.toLoadRect f = f := Memref.readAt_unit_zero (Elt F) cc0_scratch1 off0 _ f
theorem rd2 (f) : (sc2).view.readAt (Elt F) R1.toLoadRect f = f := Memref.readAt_unit_zero (Elt F) cc0_scratch2 off0 _ f
theorem rd3 (f) : (sc3).view.readAt (Elt F) R1.toLoadRect f = f := Memref.readAt_unit_zero (Elt F) cc0_scratch3 off0 _ f
theorem rd4 (f) : (sc4).view.readAt (Elt F) R1.toLoadRect f = f := Memref.readAt_unit_zero (Elt F) cc0_scratch4 off0 _ f
theorem rd5 (f) : (sc5).view.readAt (Elt F) R1.toLoadRect f = f := Memref.readAt_unit_zero (Elt F) cc0_scratch5 off0 _ f
theorem rdq (f) : (stage0_0 0).view.readAt (Elt F) R32.toLoadRect f = f := Memref.readAt_unit_zero (Elt F) cc0_stg0_0 off0 _ f
theorem rdt0 (f) : (stage0_1 0).view.readAt (Elt F) R32.toLoadRect f = f := Memref.readAt_unit_zero (Elt F) cc0_stg1_0 off0 _ f
theorem rdt1 (f) : (stage0_1 1).view.readAt (Elt F) R32.toLoadRect f = f := Memref.readAt_unit_zero (Elt F) cc0_stg1_1 off0 _ f
/-- A whole store leaves what it stores. -/
theorem wr0 (f w) : ((sc0).access R1 : View sig .tc _ _ _).write (Elt F) f w Finset.univ = w := Memref.write_access_unit_zero_univ (Elt F) cc0_scratch0 off0 _ f w
theorem wr1 (f w) : ((sc1).access R1 : View sig .tc _ _ _).write (Elt F) f w Finset.univ = w := Memref.write_access_unit_zero_univ (Elt F) cc0_scratch1 off0 _ f w
theorem wr2 (f w) : ((sc2).access R1 : View sig .tc _ _ _).write (Elt F) f w Finset.univ = w := Memref.write_access_unit_zero_univ (Elt F) cc0_scratch2 off0 _ f w
theorem wr3 (f w) : ((sc3).access R1 : View sig .tc _ _ _).write (Elt F) f w Finset.univ = w := Memref.write_access_unit_zero_univ (Elt F) cc0_scratch3 off0 _ f w
theorem wr4 (f w) : ((sc4).access R1 : View sig .tc _ _ _).write (Elt F) f w Finset.univ = w := Memref.write_access_unit_zero_univ (Elt F) cc0_scratch4 off0 _ f w
theorem wr5 (f w) : ((sc5).access R1 : View sig .tc _ _ _).write (Elt F) f w Finset.univ = w := Memref.write_access_unit_zero_univ (Elt F) cc0_scratch5 off0 _ f w
theorem wrw (f w) : ((stage0_2 0).access R8 : View sig .tc _ _ _).write (Elt F) f w Finset.univ = w := Memref.write_access_unit_zero_univ (Elt F) cc0_stg2_0 off0 _ f w
theorem wrx (f w) : ((stage0_3 0).access R8 : View sig .tc _ _ _).write (Elt F) f w Finset.univ = w := Memref.write_access_unit_zero_univ (Elt F) cc0_stg3_0 off0 _ f w

set_option maxHeartbeats 8000000 in
/-- The first part of the body: the columns set at the first point, the two blocks and the columns read. -/
theorem part1_run (c : Dev nD) (E : Set ℕ) (i : grid0.Coords) (s1 : Fin 2) (sf tf : S1024x32.Idx → F .f32) (s s' : St F)
    (hs : s' = if (i 0).val = 0 then St.init else s) (Q : _ → sProp 𝕄) :
    iprop((owns (c : Thread nD τ) (stage0_0 0) fullShare sf ∗ owns (c : Thread nD τ) (stage0_1 s1) fullShare tf ∗ scr c s)
          ∗ (iprop(owns (c : Thread nD τ) (stage0_0 0) fullShare sf ∗ owns (c : Thread nD τ) (stage0_1 s1) fullShare tf ∗ scr c s')
            -∗ Q ⟨BitVec.ofNat 32 (i 0).val, k0_pay9 i, k0_pay10 i sf tf, s'.v0, s'.i0, s'.v1, s'.i1, s'.v2, s'.i2⟩))
      ⊢ wp frame (wpE (defs₀ (F := F)) 𝒱₀ c none) E
          (k0_part1 i (stage0_0 0) (hstage0_0 0) (stage0_1 s1) (hstage0_1 s1) (stage0_2 0) (hstage0_2 0) (stage0_3 0) (hstage0_3 0)
            sc0 (Memref.isWhole_whole _) sc1 (Memref.isWhole_whole _) sc2 (Memref.isWhole_whole _) sc3 (Memref.isWhole_whole _)
            sc4 (Memref.isWhole_whole _) sc5 (Memref.isWhole_whole _)) Q := by
  have hc := first_cond i
  unfold scr
  fin_cases s1 <;> by_cases h0 : (i 0).val = 0
  all_goals
    first | rw [if_pos h0] at hs | rw [if_neg h0] at hs
    subst hs
    simp only [owns_whole_eq, k0_part1_eq_skeleton, St.init]; unfold k0_part1_skel
    first | rw [dif_pos (hc.mpr h0)] | rw [dif_neg (fun h => h0 (hc.mp h))]
    simp only [Prog.lift, Prog.bind_op, Prog.bind_ret]
    iintro ⟨⟨⟨%f0, %hf0, H0⟩, ⟨%f1, %hf1, H1⟩, S0, S1, S2, S3, S4, S5⟩, Hk⟩
    subst hf0 hf1
    sl_steps
    first
      | rw [rdq, rdt0, wr0, wr1, wr2, wr3, wr4, wr5, rd0, rd1, rd2, rd3, rd4, rd5]
      | rw [rdq, rdt1, wr0, wr1, wr2, wr3, wr4, wr5, rd0, rd1, rd2, rd3, rd4, rd5]
      | rw [rdq, rdt0, rd0, rd1, rd2, rd3, rd4, rd5]
      | rw [rdq, rdt1, rd0, rd1, rd2, rd3, rd4, rd5]
    iapply Hk
    isplitl [H0]
    · iexists f0; isplitr; · ipureintro; rfl
      iexact H0
    isplitl [H1]
    · iexists f1; isplitr; · ipureintro; rfl
      iexact H1
    isplitl [S0]; · iexact S0
    isplitl [S1]; · iexact S1
    isplitl [S2]; · iexact S2
    isplitl [S3]; · iexact S3
    isplitl [S4]; · iexact S4
    iexact S5

set_option maxHeartbeats 1000000 in
/-- The last part of the body before its closing condition: the columns stored. -/
theorem part3_run (c : Dev nD) (E : Set ℕ) (i : grid0.Coords) (s1 : Fin 2) (s s' : St F) (a : BitVec 32) (g : S1024x1024.Idx → BitVec 32) (dd : S1024x1024.Idx → F .f32)
    (Q : _ → sProp 𝕄) :
    iprop(scr c s' ∗ (iprop(scr c (s.upd g dd))
            -∗ Q ⟨(s.upd g dd).v0, (s.upd g dd).i0, (s.upd g dd).v1, (s.upd g dd).i1, (s.upd g dd).v2, (s.upd g dd).i2, Scalar.extui (Scalar.cmpi .eq a 97#32)⟩))
      ⊢ wp frame (wpE (defs₀ (F := F)) 𝒱₀ c none) E
          (k0_part3 i (stage0_0 0) (hstage0_0 0) (stage0_1 s1) (hstage0_1 s1) (stage0_2 0) (hstage0_2 0) (stage0_3 0) (hstage0_3 0)
            sc0 (Memref.isWhole_whole _) sc1 (Memref.isWhole_whole _) sc2 (Memref.isWhole_whole _) sc3 (Memref.isWhole_whole _)
            sc4 (Memref.isWhole_whole _) sc5 (Memref.isWhole_whole _) a g (k0_pay24 g dd) (k0_pay28 g dd s.v0) (k0_pay29 g dd s.v0 s.i0)
            (k0_pay30 g dd s.v0 s.v1) (k0_pay31 g dd s.v0 s.i0 s.v1 s.i1) (k0_pay32 g dd s.v0 s.v1 s.v2)
            (k0_pay33 g dd s.v0 s.i0 s.v1 s.i1 s.v2 s.i2) (k0_pay34 g dd)) Q := by
  unfold scr
  simp only [k0_part3_eq_skeleton, St.upd]; unfold k0_part3_skel
  simp only [Prog.lift, Prog.bind_op, Prog.bind_ret]
  iintro ⟨⟨S0, S1, S2, S3, S4, S5⟩, Hk⟩
  sl_steps
  rw [wr0, wr1, wr2, wr3, wr4, wr5]
  have e0 : k0_pay45 (k0_pay28 g dd s.v0) (k0_pay34 g dd) = k0_pay39 (k0_pay28 g dd s.v0) (k0_pay34 g dd) := shapeCast_self _ _
  have e1 : k0_pay46 g (k0_pay24 g dd) (k0_pay28 g dd s.v0) (k0_pay29 g dd s.v0 s.i0) (k0_pay34 g dd)
    = k0_pay40 g (k0_pay24 g dd) (k0_pay28 g dd s.v0) (k0_pay29 g dd s.v0 s.i0) (k0_pay34 g dd) := shapeCast_self _ _
  have e2 : k0_pay47 (k0_pay28 g dd s.v0) (k0_pay30 g dd s.v0 s.v1) (k0_pay34 g dd)
    = k0_pay41 (k0_pay28 g dd s.v0) (k0_pay30 g dd s.v0 s.v1) (k0_pay34 g dd) := shapeCast_self _ _
  have e3 : k0_pay48 g (k0_pay24 g dd) (k0_pay28 g dd s.v0) (k0_pay29 g dd s.v0 s.i0) (k0_pay30 g dd s.v0 s.v1)
      (k0_pay31 g dd s.v0 s.i0 s.v1 s.i1) (k0_pay34 g dd)
    = k0_pay42 g (k0_pay24 g dd) (k0_pay28 g dd s.v0) (k0_pay29 g dd s.v0 s.i0) (k0_pay30 g dd s.v0 s.v1)
      (k0_pay31 g dd s.v0 s.i0 s.v1 s.i1) (k0_pay34 g dd) := shapeCast_self _ _
  have e4 : k0_pay49 (k0_pay30 g dd s.v0 s.v1) (k0_pay32 g dd s.v0 s.v1 s.v2) (k0_pay34 g dd)
    = k0_pay43 (k0_pay30 g dd s.v0 s.v1) (k0_pay32 g dd s.v0 s.v1 s.v2) (k0_pay34 g dd) := shapeCast_self _ _
  have e5 : k0_pay50 g (k0_pay24 g dd) (k0_pay30 g dd s.v0 s.v1) (k0_pay31 g dd s.v0 s.i0 s.v1 s.i1)
      (k0_pay32 g dd s.v0 s.v1 s.v2) (k0_pay33 g dd s.v0 s.i0 s.v1 s.i1 s.v2 s.i2) (k0_pay34 g dd)
    = k0_pay44 g (k0_pay24 g dd) (k0_pay30 g dd s.v0 s.v1) (k0_pay31 g dd s.v0 s.i0 s.v1 s.i1)
      (k0_pay32 g dd s.v0 s.v1 s.v2) (k0_pay33 g dd s.v0 s.i0 s.v1 s.i1 s.v2 s.i2) (k0_pay34 g dd) := shapeCast_self _ _
  rw [e0, e1, e2, e3, e4, e5]
  iapply Hk
  isplitl [S0]; · iexact S0
  isplitl [S1]; · iexact S1
  isplitl [S2]; · iexact S2
  isplitl [S3]; · iexact S3
  isplitl [S4]; · iexact S4
  iexact S5

set_option maxHeartbeats 1000000 in
/-- The body at point `i`: it leaves the two blocks as they are, the columns updated (from their first values at the
    first point), and at the last point the weights and target numbers in the results' buffers. -/
theorem topk_run (c : Dev nD) (E : Set ℕ) (i : grid0.Coords) (s1 : Fin 2) (sf tf : S1024x32.Idx → F .f32) (s s' : St F)
    (hs : s' = if (i 0).val = 0 then St.init else s)
    (w0 : S1024x8.Idx → F .f32) (x0 : S1024x8.Idx → BitVec 32) (Q : PUnit → sProp 𝕄) :
    iprop((owns (c : Thread nD τ) (stage0_0 0) fullShare sf ∗ owns (c : Thread nD τ) (stage0_1 s1) fullShare tf
            ∗ owns (c : Thread nD τ) (stage0_2 0) fullShare w0 ∗ owns (c : Thread nD τ) (stage0_3 0) fullShare x0 ∗ scr c s)
          ∗ (iprop(owns (c : Thread nD τ) (stage0_0 0) fullShare sf ∗ owns (c : Thread nD τ) (stage0_1 s1) fullShare tf
            ∗ owns (c : Thread nD τ) (stage0_2 0) fullShare (if k0_cond2 i = 1#1 then (s'.step i sf tf).w else w0)
            ∗ owns (c : Thread nD τ) (stage0_3 0) fullShare (if k0_cond2 i = 1#1 then (s'.step i sf tf).ix else x0)
            ∗ scr c (s'.step i sf tf)) -∗ Q ⟨⟩))
      ⊢ wp frame (wpE (defs₀ (F := F)) 𝒱₀ c none) E
          (cc0__topk_body i (stage0_0 0) (hstage0_0 0) (stage0_1 s1) (hstage0_1 s1) (stage0_2 0) (hstage0_2 0) (stage0_3 0) (hstage0_3 0)
            sc0 (Memref.isWhole_whole _) sc1 (Memref.isWhole_whole _) sc2 (Memref.isWhole_whole _) sc3 (Memref.isWhole_whole _)
            sc4 (Memref.isWhole_whole _) sc5 (Memref.isWhole_whole _)) Q := by
  rw [cc0__topk_body_eq_skeleton]; unfold cc0__topk_body_skel
  simp only [wp_bind]
  iintro ⟨⟨H0, H1, H2, H3, S⟩, Hk⟩
  iapply (part1_run c E i s1 sf tf s s' hs _)
  isplitl [H0 H1 S]
  · isplitl [H0]; · iexact H0
    isplitl [H1]; · iexact H1
    iexact S
  iintro ⟨H0, H1, S⟩
  simp only [k0_part2_eq_skeleton]; unfold k0_part2_skel
  simp only [wp_pure]
  imodintro
  iapply (part3_run c E i s1 s' s' _ _ _ _)
  isplitl [S]; · iexact S
  iintro S
  by_cases h2 : k0_cond2 i = 1#1
  · rw [dif_pos h2, if_pos h2, if_pos h2]
    simp only [owns_whole_eq]
    simp only [Prog.lift, Prog.bind_op, Prog.bind_ret]
    icases H2 with ⟨%f2, %hf2, H2⟩
    icases H3 with ⟨%f3, %hf3, H3⟩
    sl_steps
    rw [wrw, wrx]
    iapply Hk
    isplitl [H0]; · iexact H0
    isplitl [H1]; · iexact H1
    isplitl [H2]
    · iexists _; isplitr
      · ipureintro; exact rfl
      iexact H2
    isplitl [H3]
    · iexists _; isplitr
      · ipureintro; exact rfl
      iexact H3
    iexact S
  · rw [dif_neg h2, if_neg h2, if_neg h2]
    sl_steps
    iapply Hk
    isplitl [H0]; · iexact H0
    isplitl [H1]; · iexact H1
    isplitl [H2]; · iexact H2
    isplitl [H3]; · iexact H3
    iexact S
end Cert.Proof

end
-- ==== Proof.Dat.lean ====
/-
  The TensorCore pipeline's proof data: what each window's buffer holds after the body at a point, the columns carried
  from point to point, and the body's obligation.
-/
module

public import proofs.«01_k».proof.Proof.Topk
public import Idealize.ShloMosaic.Lib.Pipeline.FrameBody

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 1) (Elt F) ℕ UU ℕ

variable (m : (ℓ : Loc nD τ sig) → Buf (Elt F) ℓ)

/-- The queries' features and the targets' features, as launched. -/
abbrev sfA (c : Dev nD) : S1024x32.Idx → F .f32 := m ((c : Thread nD τ).loc main_arg0)
abbrev tfA (c : Dev nD) : S100000x32.Idx → F .f32 := m ((c : Thread nD τ).loc main_arg1)

/-- Grid point number `n`. -/
def pt (n : ℕ) : Fin cfg0.N := ⟨n % 98, by rw [show cfg0.N = 98 from N_0]; exact Nat.mod_lt _ (by decide)⟩

theorem pt_val (t : Fin cfg0.N) : pt t.val = t := Fin.ext (Nat.mod_eq_of_lt (lt_of_lt_of_eq t.isLt N_0))

/-- The part of the targets' block at point `t` that lies inside the array, as the fetch reads it. -/
def tblk (c : Dev nD) (t : Fin cfg0.N) : (win0_1.xblock (grid0.coords t)).Idx → F .f32 :=
  (win0_1.blk t).view.read (Elt F) (tfA m c)

/-- The block at point `t`, its rows past the array's end filled with zeros. -/
def tblk0 (c : Dev nD) (t : Fin cfg0.N) : S1024x32.Idx → F .f32 :=
  win0_1.fill (grid0.coords t) (fun _ => Scalar.ofBits .f32 0#32) (tblk m c t)

/-- The columns before point `n`. -/
def stAt (c : Dev nD) : ℕ → St F
  | 0 => St.init
  | n + 1 => (stAt c n).step (grid0.coords (pt n)) (sfA m c) (tblk0 m c (pt n))

/-- The proof data of the pipeline on core `c`. -/
def dat (c : Dev nD) : Dat τ (Elt F) (HIx 1) ℕ UU ℕ cfg0 c where
  A w := m ((cfg0.win w).arr.view.loc (c : Thread nD τ))
  after w t := match w with
    | ⟨0, _⟩ => sfA m c
    | ⟨1, _⟩ => tblk0 m c t
    | ⟨2, _⟩ => (stAt m c (t.val + 1)).w
    | ⟨3, _⟩ => (stAt m c (t.val + 1)).ix
  Φ t := iprop(∃ s, ⌜t.val ≠ 0 → s = stAt m c t.val⌝ ∗ scr c s)
  q _ := fullShare
  owed _ := (K (F := F)).Otc c 0
  recorded _ := {p | (K (F := F)).lev (SparseCore.T c, p.1) p.2 ≤ 8 * (0 : ℕ)}

/-! ## What the buffers hold when the body runs -/

theorem coords_val (t : Fin cfg0.N) : (grid0.coords t 0).val = t.val := by
  have h : t.val < 98 := lt_of_lt_of_eq t.isLt N_0
  show t.val / 1 % 98 = t.val
  omega

/-- The results are written at the last point. -/
theorem cond2_iff (t : Fin cfg0.N) : Iff (k0_cond2 (grid0.coords t) = 1#1) (t.val = 97) := by
  have hv := coords_val t
  have h : t.val < 98 := lt_of_lt_of_eq t.isLt N_0
  have hx : ∀ n : Fin 98, Iff (Scalar.cmpi .ne (Scalar.extui (Scalar.cmpi .eq (BitVec.ofNat 32 n.val) 97#32)) 0#32 = 1#1) (n.val = 97) := by decide
  have := hx ⟨t.val, h⟩
  unfold k0_cond2
  simp only [hv]
  exact this

/-- The queries' block is the whole array. -/
theorem read0 (c : Dev nD) (t : Fin cfg0.N) : (dat m c).blockOf 0 t = sfA m c := by
  funext j
  unfold Dat.blockOf
  exact congrArg (sfA m c) (funext fun a => Fin.ext (by
    fin_cases a
    · show 0 * 1024 + 1 * (j 0).val = (j 0).val; omega
    · show 0 * 32 + 1 * (j 1).val = (j 1).val; omega))

theorem before0 (c : Dev nD) (t : Fin cfg0.N) (d) : (dat m c).before 0 t d = sfA m c :=
  ((dat m c).before_in_eq_fetched 0 rfl (fun _ => rfl) (fun _ _ _ => rfl) (fun t => (read0 m c t).symm) t d).trans
    (by unfold Dat.fetched; rw [read0]; rfl)

theorem before1 (c : Dev nD) (t : Fin cfg0.N) (d) : (dat m c).before 1 t d = win0_1.fill (grid0.coords t) d (tblk m c t) := by
  unfold Dat.before; rw [if_pos (fetch0_1 t)]; rfl

/-- The masked distances do not depend on what fills the rows past the array's end. -/
def Masks (F : FTy → Type) [FloatOps F] : Prop :=
  ∀ (t : Fin cfg0.N) (sf : S1024x32.Idx → F .f32) (d d' : S1024x32.Idx → F .f32) (b : (win0_1.xblock (grid0.coords t)).Idx → F .f32),
    k0_pay10 (grid0.coords t) sf (win0_1.fill (grid0.coords t) d b) = k0_pay10 (grid0.coords t) sf (win0_1.fill (grid0.coords t) d' b)

/-- `topk_run` at any names of the buffers. -/
theorem topk_run' (c : Dev nD) (E : Set ℕ) (i : grid0.Coords) (a0 : Fin 1) (s1 : Fin 2) (a2 a3 : Fin 1) (sf tf : S1024x32.Idx → F .f32) (s s' : St F)
    (hs : s' = if (i 0).val = 0 then St.init else s)
    (w0 : S1024x8.Idx → F .f32) (x0 : S1024x8.Idx → BitVec 32) (Q : PUnit → sProp 𝕄) :
    iprop((owns (c : Thread nD τ) (stage0_0 a0) fullShare sf ∗ owns (c : Thread nD τ) (stage0_1 s1) fullShare tf
            ∗ owns (c : Thread nD τ) (stage0_2 a2) fullShare w0 ∗ owns (c : Thread nD τ) (stage0_3 a3) fullShare x0 ∗ scr c s)
          ∗ (iprop(owns (c : Thread nD τ) (stage0_0 a0) fullShare sf ∗ owns (c : Thread nD τ) (stage0_1 s1) fullShare tf
            ∗ owns (c : Thread nD τ) (stage0_2 a2) fullShare (if k0_cond2 i = 1#1 then (s'.step i sf tf).w else w0)
            ∗ owns (c : Thread nD τ) (stage0_3 a3) fullShare (if k0_cond2 i = 1#1 then (s'.step i sf tf).ix else x0)
            ∗ scr c (s'.step i sf tf)) -∗ Q ⟨⟩))
      ⊢ wp frame (wpE (defs₀ (F := F)) 𝒱₀ c none) E
          (cc0__topk_body i (stage0_0 a0) (hstage0_0 a0) (stage0_1 s1) (hstage0_1 s1) (stage0_2 a2) (hstage0_2 a2) (stage0_3 a3) (hstage0_3 a3)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _)) Q := by
  obtain rfl : a0 = 0 := Subsingleton.elim _ _
  obtain rfl : a2 = 0 := Subsingleton.elim _ _
  obtain rfl : a3 = 0 := Subsingleton.elim _ _
  exact topk_run c E i s1 sf tf s s' hs w0 x0 Q

/-- One more block: at point `t` the columns go from their contents before it to those after it. -/
theorem step_at (hm : Masks F) (c : Dev nD) (t : Fin cfg0.N) (s : St F) (hs : t.val ≠ 0 → s = stAt m c t.val)
    (d : S1024x32.Idx → F .f32) :
    (if (grid0.coords t 0).val = 0 then St.init else s).step (grid0.coords t) (sfA m c) (win0_1.fill (grid0.coords t) d (tblk m c t))
      = stAt m c (t.val + 1) := by
  have e : (if (grid0.coords t 0).val = 0 then St.init else s) = stAt m c t.val := by
    rw [coords_val]
    split
    · next h => rw [h]; rfl
    · next h => exact hs h
  rw [e]
  show _ = (stAt m c t.val).step (grid0.coords (pt t.val)) (sfA m c) (tblk0 m c (pt t.val))
  rw [pt_val]
  unfold St.step tblk0
  exact congrArg (fun x => St.upd (k0_pay9 (grid0.coords t)) x (stAt m c t.val)) (hm t (sfA m c) d (fun _ => Scalar.ofBits .f32 0#32) (tblk m c t))

/-- What the obligation asks of a result's buffer after the body, from what the body leaves. -/
theorem leaves2 (c : Dev nD) (t : Fin cfg0.N) (d) :
    owns (c : Thread nD τ) ((cfg0.win 2).stage (cfg0.slots t 2)) fullShare
        (if k0_cond2 (grid0.coords t) = 1#1 then (stAt m c (t.val + 1)).w else (dat m c).before 2 t d)
      ⊢ (match cfg0.idle 2 (cfg0.grid.coords t) with
          | true =>
            match (cfg0.win 2).flush t with
            | false => iprop(∃ d, owns (c : Thread nD τ) ((cfg0.win 2).stage (cfg0.slots t 2)) fullShare ((dat m c).before 2 t d))
            | true => owns (c : Thread nD τ) ((cfg0.win 2).stage (cfg0.slots t 2)) fullShare ((dat m c).after 2 t)
          | false => owns (c : Thread nD τ) ((cfg0.win 2).stage (cfg0.slots t 2)) fullShare ((dat m c).after 2 t) : sProp 𝕄) := by
  by_cases h : k0_cond2 (grid0.coords t) = 1#1
  · rw [if_pos h, show cfg0.idle 2 (cfg0.grid.coords t) = false from by show (!(k0_cond2 (grid0.coords t) == 1#1)) = false; rw [h]; rfl]
    exact .rfl
  · have hf : (cfg0.win 2).flush t = false := by
      rw [Bool.eq_false_iff]; intro hx
      have := (flush0_2 t).mp hx
      exact h ((cond2_iff t).mpr (by have := lt_of_lt_of_eq t.isLt N_0; omega))
    rw [if_neg h, show cfg0.idle 2 (cfg0.grid.coords t) = true from by
      show (!(k0_cond2 (grid0.coords t) == 1#1)) = true; rw [beq_eq_false_iff_ne.mpr h]; rfl, hf]
    iintro H; iexists d; iexact H

theorem leaves3 (c : Dev nD) (t : Fin cfg0.N) (d) :
    owns (c : Thread nD τ) ((cfg0.win 3).stage (cfg0.slots t 3)) fullShare
        (if k0_cond2 (grid0.coords t) = 1#1 then (stAt m c (t.val + 1)).ix else (dat m c).before 3 t d)
      ⊢ (match cfg0.idle 3 (cfg0.grid.coords t) with
          | true =>
            match (cfg0.win 3).flush t with
            | false => iprop(∃ d, owns (c : Thread nD τ) ((cfg0.win 3).stage (cfg0.slots t 3)) fullShare ((dat m c).before 3 t d))
            | true => owns (c : Thread nD τ) ((cfg0.win 3).stage (cfg0.slots t 3)) fullShare ((dat m c).after 3 t)
          | false => owns (c : Thread nD τ) ((cfg0.win 3).stage (cfg0.slots t 3)) fullShare ((dat m c).after 3 t) : sProp 𝕄) := by
  by_cases h : k0_cond2 (grid0.coords t) = 1#1
  · rw [if_pos h, show cfg0.idle 3 (cfg0.grid.coords t) = false from by show (!(k0_cond2 (grid0.coords t) == 1#1)) = false; rw [h]; rfl]
    exact .rfl
  · have hf : (cfg0.win 3).flush t = false := by
      rw [Bool.eq_false_iff]; intro hx
      have := (flush0_3 t).mp hx
      exact h ((cond2_iff t).mpr (by have := lt_of_lt_of_eq t.isLt N_0; omega))
    rw [if_neg h, show cfg0.idle 3 (cfg0.grid.coords t) = true from by
      show (!(k0_cond2 (grid0.coords t) == 1#1)) = true; rw [beq_eq_false_iff_ne.mpr h]; rfl, hf]
    iintro H; iexists d; iexact H

/-- The body at every point meets the pipeline's obligation. -/
theorem body_obligation (hm : Masks F) (c : Dev nD) : BodyObligationLoose (dat m c) (defs₀ (F := F)) 𝒱₀ none Set.univ := by
  intro t
  rw [bigSep_W0, bigSep_W0]
  simp only
  rw [show (dat m c).Φ t.castSucc = iprop(∃ s, ⌜t.val ≠ 0 → s = stAt m c t.val⌝ ∗ scr c s) from rfl,
    show (dat m c).Φ t.succ = iprop(∃ s, ⌜t.val + 1 ≠ 0 → s = stAt m c (t.val + 1)⌝ ∗ scr c s) from rfl]
  iintro ⟨⟨%s, %hs, S⟩, Ho, ⟨%d0, H0⟩, ⟨%d1, H1⟩, ⟨%d2, H2⟩, ⟨%d3, H3⟩⟩
  have hst := step_at m hm c t s hs d1
  rw [before0 m c t d0, before1 m c t d1]
  iapply (topk_run' c Set.univ (grid0.coords t) (cfg0.slots t 0) (cfg0.slots t 1) (cfg0.slots t 2) (cfg0.slots t 3) (sfA m c)
    (win0_1.fill (grid0.coords t) d1 (tblk m c t)) s _ rfl ((dat m c).before 2 t d2) ((dat m c).before 3 t d3) _)
  rw [hst]
  isplitl [H0 H1 H2 H3 S]
  · isplitl [H0]; · iexact H0
    isplitl [H1]; · iexact H1
    isplitl [H2]; · iexact H2
    isplitl [H3]; · iexact H3
    iexact S
  iintro ⟨H0, H1, H2, H3, S⟩
  isplitl [S]
  · iexists stAt m c (t.val + 1)
    isplitr; · ipureintro; exact fun _ => rfl
    iexact S
  isplitl [Ho]; · iexact Ho
  isplitl [H0]; · iexact H0
  isplitl [H1]
  · iexists d1
    rw [show (cfg0.win 1).cut (grid0.coords t) ((dat m c).after 1 t) = tblk m c t from win0_1.cut_fill _ _ _]
    iexact H1
  isplitl [H2]
  · iapply (leaves2 m c t d2); iexact H2
  · iapply (leaves3 m c t d3); iexact H3

end Cert.Proof

end
-- ==== Proof.Order.lean ====
/-
  The three least of a set of numbered values, ties going to the lower number: what it means, how one more value enters,
  how a later block of values enters by its own three least, and that the three are determined.
-/
module

public import Idealize.ShloMosaic.PureOps.Ideal.Laws
public import Mathlib.Data.Finset.Fold

@[expose] public section

noncomputable section

namespace Cert.Proof

open Idealize.ShloMosaic

/-- Number `a` comes before number `b`: its value is less, or they are equal and `a` is the lower number. -/
def Before (D : ℕ → EReal) (a b : ℕ) : Prop := D a < D b ∨ (D a = D b ∧ a < b)

variable {D : ℕ → EReal}

theorem Before.irrefl (a : ℕ) : ¬Before D a a := by
  rintro (h | ⟨-, h⟩)
  · exact lt_irrefl _ h
  · exact lt_irrefl _ h

theorem Before.trans {a b c : ℕ} (h : Before D a b) (h' : Before D b c) : Before D a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem Before.ne {a b : ℕ} (h : Before D a b) : a ≠ b := by
  rintro rfl; exact Before.irrefl a h

theorem Before.total (a b : ℕ) : a = b ∨ Before D a b ∨ Before D b a := by
  rcases lt_trichotomy (D a) (D b) with h | h | h
  · exact Or.inr (Or.inl (Or.inl h))
  · rcases lt_trichotomy a b with g | g | g
    · exact Or.inr (Or.inl (Or.inr ⟨h, g⟩))
    · exact Or.inl g
    · exact Or.inr (Or.inr (Or.inr ⟨h.symm, g⟩))
  · exact Or.inr (Or.inr (Or.inl h))

theorem Before.asymm {a b : ℕ} (h : Before D a b) : ¬Before D b a := fun h' => Before.irrefl a (h.trans h')

/-- `n0`, `n1`, `n2` are the first three of the numbers in `A`. -/
structure Top3 (D : ℕ → EReal) (A : ℕ → Prop) (n0 n1 n2 : ℕ) : Prop where
  m0 : A n0
  m1 : A n1
  m2 : A n2
  h01 : Before D n0 n1
  h12 : Before D n1 n2
  rest : ∀ n, A n → n = n0 ∨ n = n1 ∨ n = n2 ∨ Before D n2 n

variable {A B : ℕ → Prop} {n0 n1 n2 j0 j1 j2 : ℕ}

/-- The first three are determined. -/
theorem Top3.unique (h : Top3 D A n0 n1 n2) (h' : Top3 D A j0 j1 j2) : n0 = j0 ∧ n1 = j1 ∧ n2 = j2 := by
  have key : ∀ {a b c x y z : ℕ}, Top3 D A a b c → Top3 D A x y z →
      (∀ n, Before D n a → ¬A n) ∧ (x = a ∨ Before D a x) := by
    intro a b c x y z g g'
    have hn : ∀ n, Before D n a → ¬A n := by
      intro n hn hA
      rcases g.rest n hA with e | e | e | e
      · exact hn.ne e
      · exact (hn.trans (e ▸ g.h01)).ne rfl
      · exact (hn.trans (e ▸ g.h01.trans g.h12)).ne rfl
      · exact (hn.trans ((g.h01.trans g.h12).trans e)).ne rfl
    refine ⟨hn, ?_⟩
    rcases Before.total (D := D) x a with e | e | e
    · exact Or.inl e
    · exact absurd g'.m0 (hn _ e)
    · exact Or.inr e
  have e0 : n0 = j0 := by
    rcases (key h h').2 with e | e
    · exact e.symm
    · exact absurd h.m0 ((key h' h).1 _ e)
  subst e0
  have e1 : n1 = j1 := by
    rcases h.rest j1 h'.m1 with e | e | e | e
    · exact absurd e.symm h'.h01.ne
    · exact e.symm
    · rcases h'.rest n1 h.m1 with f | f | f | f
      · exact absurd f.symm h.h01.ne
      · exact f
      · exact absurd (h.h12.trans (e ▸ f ▸ h'.h12)) (Before.irrefl _)
      · exact absurd (h.h12.trans (e ▸ h'.h12.trans f)) (Before.irrefl _)
    · rcases h'.rest n1 h.m1 with f | f | f | f
      · exact absurd f.symm h.h01.ne
      · exact f
      · exact absurd ((h.h12.trans e).trans (f ▸ h'.h12)) (Before.irrefl _)
      · exact absurd ((h.h12.trans e).trans (h'.h12.trans f)) (Before.irrefl _)
  subst e1
  refine ⟨rfl, rfl, ?_⟩
  rcases h.rest j2 h'.m2 with e | e | e | e
  · exact absurd e.symm (h'.h01.trans h'.h12).ne
  · exact absurd e.symm h'.h12.ne
  · exact e.symm
  · rcases h'.rest n2 h.m2 with f | f | f | f
    · exact absurd f.symm (h.h01.trans h.h12).ne
    · exact absurd f.symm h.h12.ne
    · exact f
    · exact absurd (e.trans f) (Before.irrefl _)

/-! ## One more value -/

/-- The first of the three after `j` enters. -/
def in0 (D : ℕ → EReal) (j n0 : ℕ) : ℕ := if D j < D n0 then j else n0
/-- The second of the three after `j` enters. -/
def in1 (D : ℕ → EReal) (j n0 n1 : ℕ) : ℕ := if D j < D n0 then n0 else if D j < D n1 then j else n1
/-- The third of the three after `j` enters. -/
def in2 (D : ℕ → EReal) (j n1 n2 : ℕ) : ℕ := if D j < D n1 then n1 else if D j < D n2 then j else n2

/-- A value after those equal to it in `A` enters by strict comparison. -/
theorem Top3.insert (h : Top3 D A n0 n1 n2) (j : ℕ) (hj : ∀ n, A n → D n = D j → n < j) :
    Top3 D (fun n => A n ∨ n = j) (in0 D j n0) (in1 D j n0 n1) (in2 D j n1 n2) := by
  have lt_iff : ∀ n, A n → (D j < D n ↔ Before D j n) := by
    intro n hn
    refine ⟨Or.inl, ?_⟩
    rintro (g | ⟨g, g'⟩)
    · exact g
    · exact absurd (hj n hn g.symm) (by omega)
  have nlt : ∀ n, A n → ¬D j < D n → Before D n j := by
    intro n hn hlt
    rcases lt_or_eq_of_le (not_lt.mp hlt) with g | g
    · exact Or.inl g
    · exact Or.inr ⟨g, hj n hn g⟩
  unfold in0 in1 in2
  by_cases c0 : D j < D n0
  · have b0 : Before D j n0 := Or.inl c0
    have c1 : D j < D n1 := (lt_iff _ h.m1).mpr (b0.trans h.h01)
    rw [if_pos c0, if_pos c0, if_pos c1]
    refine ⟨Or.inr rfl, Or.inl h.m0, Or.inl h.m1, b0, h.h01, ?_⟩
    rintro n (hn | rfl)
    · rcases h.rest n hn with e | e | e | e
      · exact Or.inr (Or.inl e)
      · exact Or.inr (Or.inr (Or.inl e))
      · exact Or.inr (Or.inr (Or.inr (e ▸ h.h12)))
      · exact Or.inr (Or.inr (Or.inr (h.h12.trans e)))
    · exact Or.inl rfl
  · rw [if_neg c0, if_neg c0]
    have b0 := nlt _ h.m0 c0
    by_cases c1 : D j < D n1
    · rw [if_pos c1, if_pos c1]
      have b1 : Before D j n1 := Or.inl c1
      refine ⟨Or.inl h.m0, Or.inr rfl, Or.inl h.m1, b0, b1, ?_⟩
      rintro n (hn | rfl)
      · rcases h.rest n hn with e | e | e | e
        · exact Or.inl e
        · exact Or.inr (Or.inr (Or.inl e))
        · exact Or.inr (Or.inr (Or.inr (e ▸ h.h12)))
        · exact Or.inr (Or.inr (Or.inr (h.h12.trans e)))
      · exact Or.inr (Or.inl rfl)
    · rw [if_neg c1, if_neg c1]
      have b1 := nlt _ h.m1 c1
      by_cases c2 : D j < D n2
      · rw [if_pos c2]
        refine ⟨Or.inl h.m0, Or.inl h.m1, Or.inr rfl, h.h01, b1, ?_⟩
        rintro n (hn | rfl)
        · rcases h.rest n hn with e | e | e | e
          · exact Or.inl e
          · exact Or.inr (Or.inl e)
          · exact Or.inr (Or.inr (Or.inr (e ▸ Or.inl c2)))
          · exact Or.inr (Or.inr (Or.inr (Before.trans (Or.inl c2) e)))
        · exact Or.inr (Or.inr (Or.inl rfl))
      · rw [if_neg c2]
        have b2 := nlt _ h.m2 c2
        refine ⟨Or.inl h.m0, Or.inl h.m1, Or.inl h.m2, h.h01, h.h12, ?_⟩
        rintro n (hn | rfl)
        · exact h.rest n hn
        · exact Or.inr (Or.inr (Or.inr b2))

/-! ## A later block -/

/-- The first three of a set with a later one are found by entering the later one's first three, in order. -/
theorem Top3.union (h : Top3 D A n0 n1 n2) (g : Top3 D B j0 j1 j2) (hlt : ∀ a b, A a → B b → a < b)
    {p0 p1 p2 q0 q1 q2 r0 r1 r2 : ℕ} (hp0 : p0 = in0 D j0 n0) (hp1 : p1 = in1 D j0 n0 n1) (hp2 : p2 = in2 D j0 n1 n2)
    (hq0 : q0 = in0 D j1 p0) (hq1 : q1 = in1 D j1 p0 p1) (hq2 : q2 = in2 D j1 p1 p2)
    (hr0 : r0 = in0 D j2 q0) (hr1 : r1 = in1 D j2 q0 q1) (hr2 : r2 = in2 D j2 q1 q2) :
    Top3 D (fun n => A n ∨ B n) r0 r1 r2 := by
  have tie : ∀ {x y : ℕ}, Before D x y → D x = D y → x < y := by
    rintro x y (e | e) e'
    · exact absurd e' (ne_of_lt e)
    · exact e.2
  have t1 := h.insert j0 fun n hn _ => hlt _ _ hn g.m0
  rw [← hp0, ← hp1, ← hp2] at t1
  have t2 := t1.insert j1 (by
    rintro n (hn | rfl) e
    · exact hlt _ _ hn g.m1
    · exact tie g.h01 e)
  rw [← hq0, ← hq1, ← hq2] at t2
  have t3 := t2.insert j2 (by
    rintro n ((hn | rfl) | rfl) e
    · exact hlt _ _ hn g.m2
    · exact tie (g.h01.trans g.h12) e
    · exact tie g.h12 e)
  rw [← hr0, ← hr1, ← hr2] at t3
  have sub : ∀ {n}, ((A n ∨ n = j0) ∨ n = j1) ∨ n = j2 → A n ∨ B n := by
    rintro n (((hn | rfl) | rfl) | rfl)
    · exact Or.inl hn
    · exact Or.inr g.m0
    · exact Or.inr g.m1
    · exact Or.inr g.m2
  refine ⟨sub t3.m0, sub t3.m1, sub t3.m2, t3.h01, t3.h12, ?_⟩
  rintro n (hn | hn)
  · exact t3.rest n (Or.inl (Or.inl (Or.inl hn)))
  · rcases g.rest n hn with e | e | e | e
    · exact t3.rest n (Or.inl (Or.inl (Or.inr e)))
    · exact t3.rest n (Or.inl (Or.inr e))
    · exact t3.rest n (Or.inr e)
    · rcases Before.total (D := D) n r2 with f | f | f
      · exact Or.inr (Or.inr (Or.inl f))
      · have fin : ∀ {x}, Before D x n → (((A x ∨ x = j0) ∨ x = j1) ∨ x = j2) → x = r0 ∨ x = r1 := by
          intro x hx hA
          rcases t3.rest x hA with w | w | w | w
          · exact Or.inl w
          · exact Or.inr w
          · exact absurd (hx.trans (w ▸ f)) (w ▸ Before.irrefl _)
          · exact absurd (w.trans (hx.trans f)) (Before.irrefl _)
        have w0 := fin ((g.h01.trans g.h12).trans e) (Or.inl (Or.inl (Or.inr rfl)))
        have w1 := fin (g.h12.trans e) (Or.inl (Or.inr rfl))
        have w2 := fin e (Or.inr rfl)
        have d01 := g.h01.ne
        have d12 := g.h12.ne
        have d02 := (g.h01.trans g.h12).ne
        omega
      · exact Or.inr (Or.inr (Or.inr f))

/-! ## A row of a block -/

section Row
variable {n : ℕ} (x : Fin n → EReal) (base : ℕ)

/-- The fold of `min` from `⊤` over a row is at most each entry. -/
theorem foldMin_le (k : Fin n) : (Finset.univ : Finset (Fin n)).fold min ⊤ x ≤ x k :=
  (Finset.le_fold_min (c := (Finset.univ : Finset (Fin n)).fold min ⊤ x)).mp le_rfl |>.2 k (Finset.mem_univ k)

/-- It is one of the entries, if one is below `⊤`. -/
theorem foldMin_mem (k : Fin n) (hk : x k < ⊤) : ∃ r, x r = (Finset.univ : Finset (Fin n)).fold min ⊤ x := by
  rcases (Finset.fold_min_le (s := (Finset.univ : Finset (Fin n))) (f := x) (b := ⊤) _).mp le_rfl with h | ⟨r, -, h⟩
  · exact absurd (lt_of_le_of_lt (h.trans (foldMin_le x k)) hk) (lt_irrefl _)
  · exact ⟨r, le_antisymm h (foldMin_le x r)⟩

/-- The signed minimum is the minimum of the integers read. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.mp h)]

theorem toInt_ofNat_small {a : ℕ} (h : a < 2 ^ 31) : (BitVec.ofNat 32 a).toInt = (a : ℤ) := by
  rw [BitVec.toInt_eq_toNat_of_lt] <;> rw [BitVec.toNat_ofNat, Nat.mod_eq_of_lt (by omega)]
  omega

/-- One round of the search: of the remaining entries `P` of a row, the others being `⊤`, the least value and the
    number it belongs to, the lowest of them. -/
theorem round (P : Fin n → Prop) (hb : base + n < 2 ^ 31) (hP : ∀ k, P k → x k = D (base + k.val) ∧ D (base + k.val) < ⊤)
    (hN : ∀ k, ¬P k → x k = ⊤) (hex : ∃ k, P k) :
    ∃ k0, P k0 ∧ (Finset.univ : Finset (Fin n)).fold min ⊤ x = D (base + k0.val)
      ∧ (Finset.univ : Finset (Fin n)).fold IntOp.minsi 2147483647#32
          (fun k => if x k = (Finset.univ : Finset (Fin n)).fold min ⊤ x then BitVec.ofNat 32 (base + k.val) else 2147483647#32)
        = BitVec.ofNat 32 (base + k0.val)
      ∧ ∀ k, P k → k ≠ k0 → Before D (base + k0.val) (base + k.val) := by
  classical
  obtain ⟨k, hk⟩ := hex
  have hkt : x k < ⊤ := by rw [(hP k hk).1]; exact (hP k hk).2
  set mn := (Finset.univ : Finset (Fin n)).fold min ⊤ x with hmn
  have hlt : mn < ⊤ := lt_of_le_of_lt (foldMin_le x k) hkt
  have hne : (Finset.univ.filter fun r => x r = mn).Nonempty := by
    obtain ⟨r, hr⟩ := foldMin_mem x k hkt
    exact ⟨r, Finset.mem_filter.mpr ⟨Finset.mem_univ _, hr⟩⟩
  obtain ⟨k0, hk0, hleast⟩ := Finset.exists_min_image _ (fun r : Fin n => r.val) hne
  have hx0 : x k0 = mn := (Finset.mem_filter.mp hk0).2
  have hP0 : P k0 := by
    by_contra h
    rw [hN k0 h] at hx0
    exact absurd hx0.symm (ne_of_lt hlt)
  have hl : ∀ r, x r = mn → k0.val ≤ r.val := fun r hr => hleast r (Finset.mem_filter.mpr ⟨Finset.mem_univ _, hr⟩)
  refine ⟨k0, hP0, by rw [← hx0, (hP k0 hP0).1], ?_, ?_⟩
  · apply BitVec.eq_of_toInt_eq
    rw [toInt_ofNat_small (by have := k0.isLt; omega)]
    rw [← Finset.fold_hom (op' := min) (m := BitVec.toInt) toInt_minsi]
    apply le_antisymm
    · refine (Finset.fold_min_le _).mpr (Or.inr ⟨k0, Finset.mem_univ _, ?_⟩)
      rw [if_pos hx0, toInt_ofNat_small (by have := k0.isLt; omega)]
    · refine (Finset.le_fold_min _).mpr ⟨?_, fun r _ => ?_⟩
      · have := k0.isLt
        show ((base + k0.val : ℕ) : ℤ) ≤ (2147483647 : ℤ)
        omega
      · by_cases hr : x r = mn
        · rw [if_pos hr, toInt_ofNat_small (by have := r.isLt; omega)]
          have := hl r hr
          omega
        · rw [if_neg hr]
          have := k0.isLt
          show ((base + k0.val : ℕ) : ℤ) ≤ (2147483647 : ℤ)
          omega
  · intro r hr hne
    have hle : D (base + k0.val) ≤ D (base + r.val) := by
      rw [← (hP k0 hP0).1, ← (hP r hr).1, hx0]; exact foldMin_le x r
    rcases lt_or_eq_of_le hle with h | h
    · exact Or.inl h
    · refine Or.inr ⟨h, ?_⟩
      have : x r = mn := by rw [(hP r hr).1, ← h, ← (hP k0 hP0).1, hx0]
      have h1 := hl r this
      have h2 : k0.val ≠ r.val := fun e => hne (Fin.ext e.symm)
      omega

end Row

end Cert.Proof
-- ==== Proof.Payload.lean ====
/-
  What the TensorCore kernel's payloads hold at an index, over the extended reals.
-/
module

public import proofs.«01_k».proof.Proof.Dat
public import proofs.«01_k».proof.Proof.Order
public import Idealize.ShloMosaic.Lib.ValueLayout
public import Idealize.ShloMosaic.Lib.ValueLayoutCasts
public import Idealize.ShloMosaic.Lib.IdealHost

@[expose] public section

noncomputable section

namespace Cert.Proof

open Cert.KernelIdeal Cert.KernelIdeal.Gen

open Idealize.ShloMosaic Idealize.ShloMosaic.TcCoe Idealize.ShloMosaic.ValueIdx

/-! ## Operations at an index -/

theorem ix2_eq {a b : ℕ} (p : Fin a) (q : Fin b) : i2 p q = ix2 p q := by
  funext k; fin_cases k <;> rfl

theorem ofBits_inf : Ideal.ofBits .f32 0x7F800000#32 = ⊤ := by
  simp [Ideal.ofBits, Ideal.ieee]

theorem select_ofBool {s : Shape} {α : Type} (c : s.Idx → BitVec 1) (x y : s.Idx → α) (i : s.Idx) (p : Prop) [Decidable p]
    (h : c i = BitVec.ofBool (decide p)) : select c x y i = if p then x i else y i := by
  unfold select
  rw [h]
  by_cases hp : p
  · rw [if_pos hp, decide_eq_true hp]; rfl
  · rw [if_neg hp, decide_eq_false hp]; rfl

theorem select_olt {s : Shape} {α : Type} (a b : FVec Ideal s .f32) (x y : s.Idx → α) (i : s.Idx) :
    select (cmpf .olt a b) x y i = if a i < b i then x i else y i := select_ofBool _ _ _ _ _ rfl

theorem select_oeq {s : Shape} {α : Type} (a b : FVec Ideal s .f32) (x y : s.Idx → α) (i : s.Idx) :
    select (cmpf .oeq a b) x y i = if a i = b i then x i else y i := select_ofBool _ _ _ _ _ rfl

theorem select_eqi {s : Shape} {α : Type} (a b : IVec s 32) (x y : s.Idx → α) (i : s.Idx) :
    select (cmpi .eq a b) x y i = if a i = b i then x i else y i :=
  select_ofBool _ _ _ _ _ (by
    show BitVec.ofBool (a i == b i) = _
    congr 1)

theorem select_slt {s : Shape} {α : Type} (a b : IVec s 32) (x y : s.Idx → α) (i : s.Idx) :
    select (cmpi .slt a b) x y i = if (a i).toInt < (b i).toInt then x i else y i :=
  select_ofBool _ _ _ _ _ (by
    show BitVec.ofBool ((a i).slt (b i)) = _
    congr 1)

/-- A column spread over the block's columns. -/
theorem bcol {α : Type} (x : S1024x1.Idx → α) (q r : Fin 1024) :
    broadcastTo S1024x1024 x broadcasts_S1024x1_S1024x1024 (i2 q r) = x (i2 q 0) := by
  refine broadcastTo_apply x _ _ _ fun ax => ?_
  fin_cases ax <;> rfl

/-- A row spread over the block's rows. -/
theorem brow {α : Type} (x : S1x1024.Idx → α) (q r : Fin 1024) :
    broadcastTo S1024x1024 x broadcasts_S1x1024_S1024x1024 (i2 q r) = x (i2 0 r) := by
  refine broadcastTo_apply x _ _ _ fun ax => ?_
  fin_cases ax <;> rfl

theorem colCast {α : Type} (x : S1024.Idx → α) (q : Fin 1024) :
    shapeCast S1024x1 x shapeCasts_S1024_S1024x1 (i2 q 0) = x (i1 q) := by
  rw [ix2_eq]
  refine (shapeCast_a_a1_apply x _ q 0).trans (congrArg x (funext fun k => ?_))
  fin_cases k; rfl

theorem rowCast {α : Type} (x : S1024.Idx → α) (r : Fin 1024) :
    shapeCast S1x1024 x shapeCasts_S1024_S1x1024 (i2 0 r) = x (i1 r) := by
  rw [ix2_eq]
  refine (shapeCast_a_1a_apply x _ 0 r).trans (congrArg x (funext fun k => ?_))
  fin_cases k; rfl

theorem lift_block (q : Fin 1024) (k : Fin 1024) :
    (Shape.Reduces.lift (s := S1024x1024) (a := 1) (t := S1024) reduces_S1024x1024_S1024 (i1 q) k) = i2 q k := by
  funext c; fin_cases c <;> rfl

theorem lift_feat (q : Fin 1024) (k : Fin 32) :
    (Shape.Reduces.lift (s := S1024x32) (a := 1) (t := S1024) reduces_S1024x32_S1024 (i1 q) k) = i2 q k := by
  funext c; fin_cases c <;> rfl

/-! ## The search's payloads -/

/-- The least entry of a row. -/
def rowMin (x : S1024x1024.Idx → EReal) (q : Fin 1024) : EReal :=
  (Finset.univ : Finset (Fin 1024)).fold min ⊤ fun r => x (i2 q r)

/-- The least number among the entries equal to the row's least. -/
def rowArg (g : S1024x1024.Idx → BitVec 32) (x : S1024x1024.Idx → EReal) (q : Fin 1024) : BitVec 32 :=
  (Finset.univ : Finset (Fin 1024)).fold IntOp.minsi 2147483647#32 fun r => if x (i2 q r) = rowMin x q then g (i2 q r) else 2147483647#32

theorem pay11_at (x : S1024x1024.Idx → EReal) (q : Fin 1024) : k0_pay11 (F := Ideal) x (i2 q 0) = rowMin x q := by
  classical
  unfold k0_pay11
  rw [colCast]
  have : Std.Commutative (FloatOps.minimumf (F := Ideal) (φ := .f32)) := ⟨fun a b => min_comm (α := EReal) a b⟩
  have : Std.Associative (FloatOps.minimumf (F := Ideal) (φ := .f32)) := ⟨fun a b c => min_assoc (α := EReal) a b c⟩
  refine (multiReduction_minimumf_eq_fold (F := Ideal) x _ reduces_S1024x1024_S1024 _ _ (i1 q)).trans ?_
  rw [Shape.Reduces.fold_filter_drop_single]
  unfold rowMin
  rw [← ofBits_inf]
  refine congrArg (Finset.fold (α := Fin 1024) (β := EReal) min (Ideal.ofBits .f32 0x7F800000#32) · Finset.univ) (funext fun k => ?_)
  exact congrArg x (lift_block q k)

theorem least_at (g : S1024x1024.Idx → BitVec 32) (x : S1024x1024.Idx → EReal) (q r : Fin 1024) :
    select (cmpf (F := Ideal) .oeq x (broadcastTo S1024x1024 (k0_pay11 (F := Ideal) x) broadcasts_S1024x1_S1024x1024)) g
        (broadcast S1024x1024 2147483647#32) (i2 q r)
      = if x (i2 q r) = rowMin x q then g (i2 q r) else 2147483647#32 := by
  rw [select_oeq, bcol, pay11_at]
  rfl

theorem pay12_at (g : S1024x1024.Idx → BitVec 32) (x : S1024x1024.Idx → EReal) (q : Fin 1024) :
    k0_pay12 (F := Ideal) g x (i2 q 0) = rowArg g x q := by
  classical
  unfold k0_pay12
  rw [colCast]
  refine (multiReductionI_eq_fold .minsi _ _ reduces_S1024x1024_S1024 _ (i1 q)).trans ?_
  show Finset.fold IntOp.minsi _ _ _ = _
  rw [Shape.Reduces.fold_filter_drop_single]
  unfold rowArg
  refine congrArg (Finset.fold (α := Fin 1024) (β := BitVec 32) IntOp.minsi 2147483647#32 · Finset.univ) (funext fun k => ?_)
  exact (congrArg _ (lift_block q k)).trans (least_at g x q k)

theorem pay13_at (g : S1024x1024.Idx → BitVec 32) (x : S1024x1024.Idx → EReal) (q r : Fin 1024) :
    k0_pay13 (F := Ideal) g x (i2 q r) = if g (i2 q r) = rowArg g x q then ⊤ else x (i2 q r) := by
  unfold k0_pay13
  rw [select_eqi, bcol, pay12_at]
  show (if _ then Ideal.ofBits .f32 0x7F800000#32 else _) = _
  rw [ofBits_inf]

/-! ## The columns' update, row by row -/

/-- One row of the six columns. -/
structure Six where
  v0 : EReal
  i0 : BitVec 32
  v1 : EReal
  i1 : BitVec 32
  v2 : EReal
  i2 : BitVec 32

/-- One value with its number enters a row by strict comparison. -/
def Six.ins (m : EReal) (j : BitVec 32) (r : Six) : Six where
  v0 := if m < r.v0 then m else r.v0
  i0 := if m < r.v0 then j else r.i0
  v1 := if m < r.v0 then r.v0 else if m < r.v1 then m else r.v1
  i1 := if m < r.v0 then r.i0 else if m < r.v1 then j else r.i1
  v2 := if m < r.v1 then r.v1 else if m < r.v2 then m else r.v2
  i2 := if m < r.v1 then r.i1 else if m < r.v2 then j else r.i2

/-- Row `q` of the columns. -/
def St.row (s : St Ideal) (q : Fin 1024) : Six :=
  ⟨s.v0 (Cert.Proof.i2 q 0), s.i0 (Cert.Proof.i2 q 0), s.v1 (Cert.Proof.i2 q 0), s.i1 (Cert.Proof.i2 q 0), s.v2 (Cert.Proof.i2 q 0), s.i2 (Cert.Proof.i2 q 0)⟩

theorem pay22_eq (g : S1024x1024.Idx → BitVec 32) (x : S1024x1024.Idx → EReal) :
    k0_pay22 (F := Ideal) g x = k0_pay11 (F := Ideal) (k0_pay13 (F := Ideal) g x) := rfl
theorem pay23_eq (g : S1024x1024.Idx → BitVec 32) (x : S1024x1024.Idx → EReal) :
    k0_pay23 (F := Ideal) g x = k0_pay12 (F := Ideal) g (k0_pay13 (F := Ideal) g x) := rfl
theorem pay24_eq (g : S1024x1024.Idx → BitVec 32) (x : S1024x1024.Idx → EReal) :
    k0_pay24 (F := Ideal) g x = k0_pay13 (F := Ideal) g (k0_pay13 (F := Ideal) g x) := rfl
theorem pay34_eq (g : S1024x1024.Idx → BitVec 32) (x : S1024x1024.Idx → EReal) :
    k0_pay34 (F := Ideal) g x = k0_pay11 (F := Ideal) (k0_pay13 (F := Ideal) g (k0_pay13 (F := Ideal) g x)) := rfl
theorem pay35_eq (g : S1024x1024.Idx → BitVec 32) (x : S1024x1024.Idx → EReal) :
    k0_pay35 (F := Ideal) g x (k0_pay11 (F := Ideal) x) = k0_pay12 (F := Ideal) g x := rfl

/-- One block's update of a row: the block's three least enter in order. -/
theorem upd_row (g : S1024x1024.Idx → BitVec 32) (x : S1024x1024.Idx → EReal) (s : St Ideal) (q : Fin 1024) :
    (s.upd g x).row q
      = (((s.row q).ins (rowMin x q) (rowArg g x q)).ins (rowMin (k0_pay13 (F := Ideal) g x) q) (rowArg g (k0_pay13 (F := Ideal) g x) q)).ins
          (rowMin (k0_pay13 (F := Ideal) g (k0_pay13 (F := Ideal) g x)) q) (rowArg g (k0_pay13 (F := Ideal) g (k0_pay13 (F := Ideal) g x)) q) := by
  simp only [St.row, St.upd, Six.ins, k0_pay39, k0_pay40, k0_pay41, k0_pay42, k0_pay43, k0_pay44, k0_pay36, k0_pay37, k0_pay38,
    pay34_eq, pay24_eq, pay35_eq, k0_pay28, k0_pay29, k0_pay30, k0_pay31, k0_pay32, k0_pay33, k0_pay25, k0_pay26, k0_pay27,
    pay22_eq, pay23_eq, k0_pay17, k0_pay18, k0_pay19, k0_pay20, k0_pay21, k0_pay14, k0_pay15, k0_pay16,
    select_olt, pay11_at, pay12_at]
  rfl

end Cert.Proof
-- ==== Proof.Dist.lean ====
/-
  The masked distances of a block, over the extended reals: entry (q, r) of block t is query q's distance to target
  1024 t + r, and ⊤ past the last target. So they do not depend on what lies past the array's end.
-/
module

public import proofs.«01_k».proof.Proof.Payload

@[expose] public section

noncomputable section

namespace Cert.Proof

open Cert.KernelIdeal Cert.KernelIdeal.Gen

open Idealize.ShloMosaic Idealize.ShloMosaic.TcCoe Idealize.ShloMosaic.ValueIdx

/-- The kernel's and the reference's constant 2. -/
abbrev two : EReal := Ideal.ofBits .f32 0x40000000#32

/-- The distance of query `q` to a target with features `tb`, as both programs compute it. -/
def rowDist (sf : S1024x32.Idx → EReal) (tb : Fin 32 → EReal) (q : Fin 1024) : EReal :=
  (∑ k : Fin 32, sf (i2 q k) * sf (i2 q k)) - two * (∑ k : Fin 32, sf (i2 q k) * tb k) + ∑ k : Fin 32, tb k * tb k

/-- The distance of query `q` to target number `n`. -/
def dist (sf : S1024x32.Idx → EReal) (tf : S100000x32.Idx → EReal) (q : Fin 1024) (n : ℕ) : EReal :=
  rowDist sf (fun k => tf (i2 (Fin.ofNat 100000 n) k)) q

theorem pay9_at (i : grid0.Coords) (q r : Fin 1024) :
    k0_pay9 i (i2 q r) = BitVec.ofNat 32 (1024 * (i 0).val + r.val) := by
  show BitVec.ofNat 32 (i 0).val * 1024#32 + BitVec.ofNat 32 _ = _
  apply BitVec.eq_of_toNat_eq
  simp only [BitVec.toNat_add, BitVec.toNat_mul, BitVec.toNat_ofNat]
  show ((i 0).val % 2 ^ 32 * (1024 % 2 ^ 32) % 2 ^ 32 + (0 * 1024 + r.val) % 2 ^ 32) % 2 ^ 32 = _
  omega

theorem i0_lt (i : grid0.Coords) : (i 0).val < 98 := (i 0).isLt

/-- The products of a query's and a target's features, summed. -/
theorem matmul_at (sf tf : S1024x32.Idx → EReal) (q r : Fin 1024) :
    FloatOps.matmul (F := Ideal) (φ₁ := .f32) (φ₂ := .f32) dot_S1024x32_S1024x32_S1024x1024_1_1_0_0_n_n none sf tf
        (constant (F := Ideal) S1024x1024 .f32 0x00000000#32) (i2 q r)
      = ∑ k : Fin 32, sf (i2 q k) * tf (i2 r k) := by
  rw [Ideal.matmul_constant_zero_apply]
  rw [← Equiv.sum_comp (contrEquiv1 dot_S1024x32_S1024x32_S1024x1024_1_1_0_0_n_n 32 rfl rfl).symm]
  refine Finset.sum_congr rfl fun k _ => ?_
  refine congrArg₂ (fun a b : EReal => a * b) (congrArg sf (funext fun c => ?_)) (congrArg tf (funext fun c => ?_)) <;>
    · fin_cases c <;> rfl

theorem sq_at (x : S1024x32.Idx → EReal) (q : Fin 1024) :
    multiReduction (F := Ideal) .add [1] S1024 (mulf (F := Ideal) (φ := .f32) x x) 0x00000000#32 reduces_S1024x32_S1024 (.inl rfl) rfl (i1 q)
      = ∑ k : Fin 32, x (i2 q k) * x (i2 q k) := by
  refine (Ideal.multiReduction_add_single (φ := .f32) _ _ reduces_S1024x32_S1024 (.inl rfl) rfl (i1 q)).trans ?_
  refine Finset.sum_congr rfl fun k _ => ?_
  exact congrArg (fun j => x j * x j) (lift_feat q k)

/-- The masked distances of a block at an entry. -/
theorem pay10_at (i : grid0.Coords) (sf tf : S1024x32.Idx → EReal) (q r : Fin 1024) :
    k0_pay10 (F := Ideal) i sf tf (i2 q r)
      = if 1024 * (i 0).val + r.val < 100000 then rowDist sf (fun k => tf (i2 r k)) q else ⊤ := by
  unfold k0_pay10
  rw [select_slt]
  have hi := i0_lt i
  have hr := r.isLt
  have e : (k0_pay9 i (i2 q r)).toInt = ((1024 * (i 0).val + r.val : ℕ) : ℤ) := by
    rw [pay9_at, toInt_ofNat_small (by omega)]
  have e' : (broadcast S1024x1024 (100000#32) (i2 q r : S1024x1024.Idx)).toInt = ((100000 : ℕ) : ℤ) := rfl
  rw [e, e']
  by_cases h : 1024 * (i 0).val + r.val < 100000
  · rw [if_pos h, if_pos (by omega)]
    simp only [addf_apply, subf_apply, mulf_apply, bcol, brow, colCast, rowCast]
    rw [sq_at, sq_at]
    refine congrArg (fun z : EReal => _ - z + _) ?_
    exact congrArg (fun z : EReal => two * z) (matmul_at sf tf q r)
  · rw [if_neg h, if_neg (by omega)]
    exact ofBits_inf

/-- The window moves row `r` of block `t` when that row is a target. -/
theorem moved_row (i : grid0.Coords) (r : Fin 1024) (k : Fin 32) (h : 1024 * (i 0).val + r.val < 100000) :
    win0_1.moved i (i2 r k) = true := by
  rw [Pipeline.Window.moved_iff]
  intro a
  have hi := i0_lt i
  have hr := r.isLt
  have hk := k.isLt
  have hv : (BitVec.ofNat 32 (i 0).val).toNat = (i 0).val := by
    rw [BitVec.toNat_ofNat, Nat.mod_eq_of_lt (by omega)]
  fin_cases a
  · show r.val < (Pipeline.Clip.of (BitVec.ofNat 32 (i 0).val).toNat 1024 100000).extent 1024
    rw [hv]
    unfold Pipeline.Clip.of
    split
    · exact hr
    · show r.val < 100000 - (i 0).val * 1024
      omega
  · show k.val < (Pipeline.Clip.of 0 32 32).extent 32
    exact hk

/-- The masked distances do not depend on what fills the rows past the array's end. -/
theorem masks : Masks Ideal := by
  intro t sf d d' b
  funext j
  rw [show j = i2 (j 0) (j 1) from (eq_ix2 j).trans (ix2_eq _ _).symm]
  refine (pay10_at _ _ _ (j 0) (j 1)).trans ((pay10_at _ _ _ (j 0) (j 1)).trans ?_).symm
  split
  · next h =>
    refine congrArg (fun z => rowDist sf z (j 0)) (funext fun k => ?_)
    unfold Pipeline.Window.fill
    rw [dif_pos (moved_row _ (j 1) k h), dif_pos (moved_row _ (j 1) k h)]
  · rfl

variable (m : (ℓ : Loc nD τ sig) → Buf (Elt Ideal) ℓ)

/-- Row `r` of block `t` is target `1024 t + r`. -/
theorem tblk0_at (c : Dev nD) (t : Fin cfg0.N) (r : Fin 1024) (k : Fin 32) (h : 1024 * t.val + r.val < 100000) :
    tblk0 m c t (i2 r k) = tfA m c (i2 (Fin.ofNat 100000 (1024 * t.val + r.val)) k) := by
  have hc := coords_val t
  have hm := moved_row (grid0.coords t) r k (by rw [hc]; exact h)
  unfold tblk0 Pipeline.Window.fill
  rw [dif_pos hm]
  have ht : t.val < 98 := lt_of_lt_of_eq t.isLt N_0
  refine congrArg (tfA m c) (funext fun a => Fin.ext ?_)
  fin_cases a
  · show (BitVec.ofNat 32 (grid0.coords t 0).val).toNat * 1024 + 1 * r.val = (1024 * t.val + r.val) % 100000
    rw [hc, BitVec.toNat_ofNat, Nat.mod_eq_of_lt (by omega), Nat.mod_eq_of_lt h]
    omega
  · show 0 * 32 + 1 * k.val = k.val
    omega

/-- The masked distances of block `t`: query `q`'s distances to targets `1024 t + r`. -/
theorem dists_at (c : Dev nD) (t : Fin cfg0.N) (q r : Fin 1024) :
    k0_pay10 (F := Ideal) (grid0.coords t) (sfA m c) (tblk0 m c t) (i2 q r)
      = if 1024 * t.val + r.val < 100000 then dist (sfA m c) (tfA m c) q (1024 * t.val + r.val) else ⊤ := by
  rw [pay10_at, coords_val]
  split
  · next h =>
    exact congrArg (fun z => rowDist (sfA m c) z q) (funext fun k => tblk0_at m c t r k h)
  · rfl

end Cert.Proof
-- ==== Proof.Inv.lean ====
/-
  The columns after each block: per query, the first three of the targets met so far by distance, ties going to the lower
  number, with their distances and their numbers.
-/
module

public import proofs.«01_k».proof.Proof.Dist

@[expose] public section

noncomputable section

namespace Cert.Proof

open Cert.KernelIdeal Cert.KernelIdeal.Gen

open Idealize.ShloMosaic Idealize.ShloMosaic.TcCoe Idealize.ShloMosaic.ValueIdx

/-- The row holds the numbers `n0`, `n1`, `n2` and their values. -/
structure Six.Holds (D : ℕ → EReal) (n0 n1 n2 : ℕ) (r : Six) : Prop where
  v0 : r.v0 = D n0
  i0 : r.i0 = BitVec.ofNat 32 n0
  v1 : r.v1 = D n1
  i1 : r.i1 = BitVec.ofNat 32 n1
  v2 : r.v2 = D n2
  i2 : r.i2 = BitVec.ofNat 32 n2

variable {D : ℕ → EReal}

/-- Entering a value keeps the row and the numbers in step. -/
theorem Six.Holds.ins {n0 n1 n2 : ℕ} {r : Six} (h : r.Holds D n0 n1 n2) (j : ℕ) :
    (r.ins (D j) (BitVec.ofNat 32 j)).Holds D (in0 D j n0) (in1 D j n0 n1) (in2 D j n1 n2) := by
  obtain ⟨h1, h2, h3, h4, h5, h6⟩ := h
  unfold Six.ins in0 in1 in2
  constructor <;> simp only [h1, h2, h3, h4, h5, h6] <;> split_ifs <;> rfl

/-- Three values in order entering a row of `⊤` fill it. -/
theorem Six.holds_first {j0 j1 j2 : ℕ} (r : Six) (h0 : r.v0 = ⊤) (h1 : r.v1 = ⊤) (h2 : r.v2 = ⊤)
    (b01 : Before D j0 j1) (b12 : Before D j1 j2) (hD : ∀ n, D n < ⊤) :
    (((r.ins (D j0) (BitVec.ofNat 32 j0)).ins (D j1) (BitVec.ofNat 32 j1)).ins (D j2) (BitVec.ofNat 32 j2)).Holds D j0 j1 j2 := by
  have nlt : ∀ {a b}, Before D a b → ¬D b < D a := by
    rintro a b (h | h)
    · exact not_lt.mpr h.le
    · exact not_lt.mpr h.1.le
  have n01 := nlt b01
  have n12 := nlt b12
  have n02 := nlt (b01.trans b12)
  unfold Six.ins
  constructor <;> simp only [h0, h1, h2, hD, if_true, if_neg n01, if_neg n12, if_neg n02]

/-- One round of the search in a row of a block, and what the masked row holds after it. -/
theorem round_at (g : S1024x1024.Idx → BitVec 32) (x : S1024x1024.Idx → EReal) (q : Fin 1024) (base : ℕ) (hb : base + 1024 < 2 ^ 31)
    (hg : ∀ r : Fin 1024, g (i2 q r) = BitVec.ofNat 32 (base + r.val)) (P : Fin 1024 → Prop)
    (hP : ∀ k, P k → x (i2 q k) = D (base + k.val) ∧ D (base + k.val) < ⊤) (hN : ∀ k, ¬P k → x (i2 q k) = ⊤) (hex : ∃ k, P k) :
    ∃ k0, P k0 ∧ rowMin x q = D (base + k0.val) ∧ rowArg g x q = BitVec.ofNat 32 (base + k0.val)
      ∧ (∀ k, P k → k ≠ k0 → Before D (base + k0.val) (base + k.val))
      ∧ (∀ k, (P k ∧ k ≠ k0) → k0_pay13 (F := Ideal) g x (i2 q k) = D (base + k.val) ∧ D (base + k.val) < ⊤)
      ∧ (∀ k, ¬(P k ∧ k ≠ k0) → k0_pay13 (F := Ideal) g x (i2 q k) = ⊤) := by
  obtain ⟨k0, h1, h2, h3, h4⟩ := round (D := D) (fun r => x (i2 q r)) base P hb hP hN hex
  have h3' : rowArg g x q = BitVec.ofNat 32 (base + k0.val) := by
    refine Eq.trans ?_ h3
    unfold rowArg
    exact congrArg (Finset.fold (α := Fin 1024) (β := BitVec 32) IntOp.minsi 2147483647#32 · Finset.univ)
      (funext fun r => by rw [hg]; rfl)
  have hk : ∀ k : Fin 1024, g (i2 q k) = rowArg g x q ↔ k = k0 := by
    intro k
    rw [h3', hg]
    constructor
    · intro e
      have e' := congrArg BitVec.toNat e
      have := k.isLt
      have := k0.isLt
      rw [BitVec.toNat_ofNat, BitVec.toNat_ofNat, Nat.mod_eq_of_lt (by omega), Nat.mod_eq_of_lt (by omega)] at e'
      exact Fin.ext (by omega)
    · rintro rfl; rfl
  refine ⟨k0, h1, h2, h3', h4, ?_, ?_⟩
  · rintro k ⟨hk1, hk2⟩
    rw [pay13_at, if_neg (mt (hk k).mp hk2)]
    exact hP k hk1
  · intro k hk'
    rw [pay13_at]
    by_cases e : k = k0
    · rw [if_pos ((hk k).mpr e)]
    · rw [if_neg (mt (hk k).mp e)]
      exact hN k fun hp => hk' ⟨hp, e⟩

/-- The targets of block `t`. -/
def InBlock (t : ℕ) (n : ℕ) : Prop := 1024 * t ≤ n ∧ n < 1024 * (t + 1) ∧ n < 100000

/-- The three rounds of a block find its first three. -/
theorem block_top3 (g : S1024x1024.Idx → BitVec 32) (x : S1024x1024.Idx → EReal) (q : Fin 1024) (t : ℕ) (ht : t < 98)
    (hg : ∀ r : Fin 1024, g (i2 q r) = BitVec.ofNat 32 (1024 * t + r.val)) (hD : ∀ n, D n < ⊤)
    (hx : ∀ r : Fin 1024, x (i2 q r) = if 1024 * t + r.val < 100000 then D (1024 * t + r.val) else ⊤) :
    ∃ j0 j1 j2, Top3 D (InBlock t) j0 j1 j2
      ∧ (rowMin x q = D j0 ∧ rowArg g x q = BitVec.ofNat 32 j0)
      ∧ (rowMin (k0_pay13 (F := Ideal) g x) q = D j1 ∧ rowArg g (k0_pay13 (F := Ideal) g x) q = BitVec.ofNat 32 j1)
      ∧ (rowMin (k0_pay13 (F := Ideal) g (k0_pay13 (F := Ideal) g x)) q = D j2
          ∧ rowArg g (k0_pay13 (F := Ideal) g (k0_pay13 (F := Ideal) g x)) q = BitVec.ofNat 32 j2) := by
  have other : ∀ a b : ℕ, ∃ k : Fin 1024, 1024 * t + k.val < 100000 ∧ k.val ≠ a ∧ k.val ≠ b := by
    intro a b
    rcases (show (0 ≠ a ∧ 0 ≠ b) ∨ (1 ≠ a ∧ 1 ≠ b) ∨ (2 ≠ a ∧ 2 ≠ b) by omega) with h | h | h
    · exact ⟨⟨0, by omega⟩, by show 1024 * t + 0 < _; omega, h⟩
    · exact ⟨⟨1, by omega⟩, by show 1024 * t + 1 < _; omega, h⟩
    · exact ⟨⟨2, by omega⟩, by show 1024 * t + 2 < _; omega, h⟩
  obtain ⟨k0, a1, a2, a3, a4, a5, a6⟩ := round_at (D := D) g x q (1024 * t) (by omega) hg (fun r => 1024 * t + r.val < 100000)
    (fun k hk => ⟨by rw [hx, if_pos hk], hD _⟩) (fun k hk => by rw [hx, if_neg hk])
    (by obtain ⟨k, hk, -⟩ := other 0 0; exact ⟨k, hk⟩)
  obtain ⟨k1, b1, b2, b3, b4, b5, b6⟩ := round_at (D := D) g _ q (1024 * t) (by omega) hg _ a5 a6
    (by obtain ⟨k, hk, h1, -⟩ := other k0.val 0; exact ⟨k, hk, fun e => h1 (congrArg Fin.val e)⟩)
  obtain ⟨k2, c1, c2, c3, c4, -, -⟩ := round_at (D := D) g _ q (1024 * t) (by omega) hg _ b5 b6
    (by
      obtain ⟨k, hk, h1, h2⟩ := other k0.val k1.val
      exact ⟨k, ⟨hk, fun e => h1 (congrArg Fin.val e)⟩, fun e => h2 (congrArg Fin.val e)⟩)
  refine ⟨1024 * t + k0.val, 1024 * t + k1.val, 1024 * t + k2.val, ?_, ⟨a2, a3⟩, ⟨b2, b3⟩, ⟨c2, c3⟩⟩
  refine ⟨⟨by omega, by have := k0.isLt; omega, a1⟩, ⟨by omega, by have := k1.isLt; omega, b1.1⟩,
    ⟨by omega, by have := k2.isLt; omega, c1.1.1⟩, a4 k1 b1.1 b1.2, b4 k2 c1.1 c1.2, ?_⟩
  rintro n ⟨hn1, hn2, hn3⟩
  have hlt : n - 1024 * t < 1024 := by omega
  have hn : 1024 * t + (⟨n - 1024 * t, hlt⟩ : Fin 1024).val = n := by show 1024 * t + (n - 1024 * t) = n; omega
  by_cases e0 : (⟨n - 1024 * t, hlt⟩ : Fin 1024) = k0
  · left; rw [← e0]; exact hn.symm
  by_cases e1 : (⟨n - 1024 * t, hlt⟩ : Fin 1024) = k1
  · right; left; rw [← e1]; exact hn.symm
  by_cases e2 : (⟨n - 1024 * t, hlt⟩ : Fin 1024) = k2
  · right; right; left; rw [← e2]; exact hn.symm
  right; right; right
  have := c4 ⟨n - 1024 * t, hlt⟩ ⟨⟨by rw [hn]; exact hn3, e0⟩, e1⟩ e2
  rwa [hn] at this

/-! ## From block to block -/

variable (m : (ℓ : Loc nD τ sig) → Buf (Elt Ideal) ℓ) (c : Dev nD)

/-- Query `q`'s distance to target number `n`, of the arrays as launched. -/
abbrev DD (q : Fin 1024) : ℕ → EReal := dist (sfA m c) (tfA m c) q

/-- After the first `t + 1` blocks a row holds the first three of their targets. -/
theorem inv (hD : ∀ q n, DD m c q n < ⊤) (q : Fin 1024) : ∀ t, t < 98 →
    ∃ n0 n1 n2, Top3 (DD m c q) (fun n => n < 1024 * (t + 1) ∧ n < 100000) n0 n1 n2
      ∧ ((stAt m c (t + 1)).row q).Holds (DD m c q) n0 n1 n2 := by
  have blk : ∀ t, t < 98 → ∃ j0 j1 j2, Top3 (DD m c q) (InBlock t) j0 j1 j2
      ∧ ∀ s : St Ideal, ((s.step (grid0.coords (pt t)) (sfA m c) (tblk0 m c (pt t))).row q)
          = (((s.row q).ins (DD m c q j0) (BitVec.ofNat 32 j0)).ins (DD m c q j1) (BitVec.ofNat 32 j1)).ins (DD m c q j2) (BitVec.ofNat 32 j2) := by
    intro t ht
    have hpt : (pt t).val = t := Nat.mod_eq_of_lt ht
    obtain ⟨j0, j1, j2, h, ⟨a1, a2⟩, ⟨b1, b2⟩, ⟨c1, c2⟩⟩ := block_top3 (D := DD m c q) (k0_pay9 (grid0.coords (pt t)))
      (k0_pay10 (F := Ideal) (grid0.coords (pt t)) (sfA m c) (tblk0 m c (pt t))) q t ht
      (fun r => by rw [pay9_at, coords_val, hpt]) (hD q) (fun r => by rw [dists_at, hpt])
    refine ⟨j0, j1, j2, h, fun s => ?_⟩
    unfold St.step
    rw [upd_row, a1, a2, b1, b2, c1, c2]
  intro t
  induction t with
  | zero =>
    intro ht
    obtain ⟨j0, j1, j2, h, hs⟩ := blk 0 ht
    refine ⟨j0, j1, j2, ⟨h.m0.2, h.m1.2, h.m2.2, h.h01, h.h12, fun n hn => h.rest n ⟨by omega, hn⟩⟩, ?_⟩
    show Six.Holds _ _ _ _ (((stAt m c 0).step _ _ _).row q)
    rw [hs]
    refine Six.holds_first _ ?_ ?_ ?_ h.h01 h.h12 (hD q) <;>
      exact ofBits_inf
  | succ t ih =>
    intro ht
    obtain ⟨n0, n1, n2, hn, hh⟩ := ih (by omega)
    obtain ⟨j0, j1, j2, h, hs⟩ := blk (t + 1) ht
    have hu := hn.union h (fun a b ha hb => lt_of_lt_of_le ha.1 hb.1) rfl rfl rfl rfl rfl rfl rfl rfl rfl
    refine ⟨_, _, _, ⟨?_, ?_, ?_, hu.h01, hu.h12, fun n hn' => hu.rest n ?_⟩, ?_⟩
    · rcases hu.m0 with w | w
      · exact ⟨by omega, w.2⟩
      · exact w.2
    · rcases hu.m1 with w | w
      · exact ⟨by omega, w.2⟩
      · exact w.2
    · rcases hu.m2 with w | w
      · exact ⟨by omega, w.2⟩
      · exact w.2
    · by_cases hl : n < 1024 * (t + 1)
      · exact Or.inl ⟨hl, hn'.2⟩
      · exact Or.inr ⟨by omega, hn'⟩
    · show Six.Holds _ _ _ _ (((stAt m c (t + 1)).step _ _ _).row q)
      rw [hs]
      exact ((hh.ins j0).ins j1).ins j2

/-- After the last block a row holds the first three of all targets. -/
theorem inv_last (hD : ∀ q n, DD m c q n < ⊤) (q : Fin 1024) :
    ∃ n0 n1 n2, Top3 (DD m c q) (fun n => n < 100000) n0 n1 n2 ∧ ((stAt m c 98).row q).Holds (DD m c q) n0 n1 n2 := by
  obtain ⟨n0, n1, n2, h, hh⟩ := inv m c hD q 97 (by omega)
  exact ⟨n0, n1, n2, ⟨h.m0.2, h.m1.2, h.m2.2, h.h01, h.h12, fun n hn => h.rest n ⟨by omega, hn⟩⟩, hh⟩

end Cert.Proof
-- ==== Proof.RefDef.lean ====
/-
  The reference's result as stages: the negated distances, their top three, the weights, the selected points, the sum.
-/
module

public import proofs.«01_k».proof.Proof.Gen.ReferenceIdeal.Run

@[expose] public section

noncomputable section

namespace Cert.Proof

open Cert.ReferenceIdeal Cert.ReferenceIdeal.Facts₀ Cert.ReferenceIdeal.Facts

open Idealize.ShloMosaic Idealize.ShloMosaic.TcCoe

variable {F : FTy → Type} [FloatOps F]

/-- The negated distance of every query to every target. -/
def refNeg (a0 : FVec F S1024x32 .f32) (a1 : FVec F S100000x32 .f32) : FVec F S1024x100000 .f32 :=
  Host.negf (addf (subf (broadcastInDim S1024x100000 ![0, 1] bcast_S1024x1_S1024x100000_0_1 (broadcastInDim S1024x1 ![0] bcast_S1024_S1024x1_0 (Host.reduceAdd (mulf a0 a0) (constant S_ .f32 0x00000000#32) reducesTo_S1024x32_S1024_d1 h_S_))) (mulf (broadcastInDim S1024x100000 ![] bcast_S_S1024x100000 (constant S_ .f32 0x40000000#32)) (Host.dotGeneral dot_S1024x32_S32x100000_S1024x100000_1_0_0_1_n_n none a0 (transpose S32x100000 [1, 0] a1 transposes_S100000x32_S32x100000_1_0)))) (broadcastInDim S1024x100000 ![0, 1] bcast_S1x100000_S1024x100000_0_1 (shapeCast _ (broadcastInDim S100000x1 ![0] bcast_S100000_S100000x1_0 (Host.reduceAdd (mulf a1 a1) (constant S_ .f32 0x00000000#32) reducesTo_S100000x32_S100000_d1 h_S_)) shapeCasts_S100000x1_S1x100000)))

/-- The three greatest of each row, and their numbers. -/
def refTop (x : FVec F S1024x100000 .f32) : (S1024x3.Idx → F .f32) × IVec S1024x3 32 :=
  Host.topK S1024x3 1 (FloatOps.cmpfTotal .gt) x sliceFits_S1024x100000_S1024x3

/-- The exponentials of the three values less their greatest. -/
def refExp (v : FVec F S1024x3 .f32) : FVec F S1024x3 .f32 :=
  Host.exp (subf v (broadcastInDim S1024x3 ![0, 1] bcast_S1024x1_S1024x3_0_1 (broadcastInDim S1024x1 ![0] bcast_S1024_S1024x1_0 (maximumf (broadcastInDim S1024 ![] bcast_S_S1024 (constant S_ .f32 0xFF800000#32)) (Host.reduce FloatOps.maximumf v (constant S_ .f32 0xFF800000#32) reducesTo_S1024x3_S1024_d1 h_S_)))))

/-- The weights: those exponentials over their sum. -/
def refWts (v : FVec F S1024x3 .f32) : FVec F S1024x3 .f32 :=
  Host.divf (refExp v) (broadcastInDim S1024x3 ![0, 1] bcast_S1024x1_S1024x3_0_1 (broadcastInDim S1024x1 ![0] bcast_S1024_S1024x1_0 (Host.reduceAdd (refExp v) (constant S_ .f32 0x00000000#32) reducesTo_S1024x3_S1024_d1 h_S_)))

/-- The numbers as one list, a negative one counted from the end, a column. -/
def refCol (ix : IVec S1024x3 32) : IVec S3072x1 32 :=
  broadcastInDim S3072x1 ![0] bcast_S3072_S3072x1_0 (select (cmpi .slt (shapeCast _ ix shapeCasts_S1024x3_S3072) (broadcastInDim S3072 ![] bcast_S_S3072 (constantI S_ 32 0#32))) (addi (shapeCast _ ix shapeCasts_S1024x3_S3072) (broadcastInDim S3072 ![] bcast_S_S3072 (constantI S_ 32 100000#32))) (shapeCast _ ix shapeCasts_S1024x3_S3072))

/-- Which numbers name a row of the table. -/
def refIn (col : IVec S3072x1 32) : IVec S3072 1 :=
  Host.reduce IntOp.andi (andi (cmpi .sge col (broadcastInDim S3072x1 ![] bcast_S_S3072x1 (constantI S_ 32 0#32))) (cmpi .sle col (broadcastInDim S3072x1 ![0, 1] bcast_S1x1_S3072x1_0_1 (broadcastInDim S1x1 ![1] bcast_S1_S1x1_1 (constantI S1 32 99999#32))))) (constantI S_ 1 1#1) reducesTo_S3072x1_S3072_d1 h_S_

/-- The named rows of the table. -/
def refSel (a2 : FVec F S100000x3 .f32) (col : IVec S3072x1 32) : FVec F S1024x3x3 .f32 :=
  shapeCast _ (select (broadcastInDim S3072x3 ![0] bcast_S3072_S3072x3_0 (refIn col)) (Host.gather gather_S100000x3_S3072x1_S3072x3_1_0_n_n_0_1_13 a2 col) (broadcastInDim S3072x3 ![] bcast_S_S3072x3 (constant S_ .f32 0x7FC00000#32))) shapeCasts_S3072x3_S1024x3x3

/-- The weighted sum of the selected rows. -/
def refSum (sel : FVec F S1024x3x3 .f32) (w : FVec F S1024x3 .f32) : FVec F S1024x3 .f32 :=
  Host.reduceAdd (mulf sel (broadcastInDim S1024x3x3 ![0, 1, 2] bcast_S1024x3x1_S1024x3x3_0_1_2 (broadcastInDim S1024x3x1 ![0, 1] bcast_S1024x3_S1024x3x1_0_1 w))) (constant S_ .f32 0x00000000#32) reducesTo_S1024x3x3_S1024x3_d1 h_S_

/-- The reference's function of its three arguments. -/
def refOut (a0 : FVec F S1024x32 .f32) (a1 : FVec F S100000x32 .f32) (a2 : FVec F S100000x3 .f32) : FVec F S1024x3 .f32 :=
  refSum (refSel a2 (refCol (refTop (refNeg a0 a1)).2)) (refWts (refTop (refNeg a0 a1)).1)

set_option maxRecDepth 8192 in
theorem res_eq (m : (ℓ : Loc nD τ sig) → Buf (Elt F) ℓ) (c : Dev nD) :
    Cert.ReferenceIdeal.Value.res_main_v33 m c
      = refOut (F := F) (m ((c.tc : Thread nD τ).loc main_arg0)) (m ((c.tc : Thread nD τ).loc main_arg1)) (m ((c.tc : Thread nD τ).loc main_arg2)) := by
  unfold Cert.ReferenceIdeal.Value.res_main_v33 refOut refSum refSel refIn refCol refWts refExp refTop refNeg
  rfl

end Cert.Proof
-- ==== Proof.RefSoft.lean ====
/-
  The weights over the extended reals: the reference's softmax of three negated finite values and the kernel's are the
  same quotients.
-/
module

public import proofs.«01_k».proof.Proof.RefDef
public import proofs.«01_k».proof.Proof.Dist

@[expose] public section

noncomputable section

namespace Cert.Proof

open Idealize.ShloMosaic Idealize.ShloMosaic.TcCoe Idealize.ShloMosaic.ValueIdx

/-! ## The quotients -/

/-- The exponential of the first value less another. -/
def expLess (a b : EReal) : EReal := Ideal.exp (a - b)

/-- The weight of value `k` among three. -/
def weight (a : Fin 3 → EReal) (k : Fin 3) : EReal :=
  Ideal.div (if k = 0 then 1 else expLess (a 0) (a k)) ((1 + expLess (a 0) (a 1)) + expLess (a 0) (a 2))

/-! ## The reference's -/

section reference
open Cert.ReferenceIdeal

theorem ofBits_neg_inf : Ideal.ofBits .f32 0xFF800000#32 = ⊥ := by
  simp [Ideal.ofBits, Ideal.ieee]

theorem reduces_three : S1024x3.Reduces [1] S1024 := by decide

theorem lift_three (q : Fin 1024) (k : Fin 3) : Shape.Reduces.lift (s := S1024x3) (a := 1) (t := S1024) reduces_three (i1 q) k = i2 q k := by
  funext c; fin_cases c <;> rfl

theorem foldMax_first (x : Fin 3 → EReal) (h : ∀ k, x k ≤ x 0) : (Finset.univ : Finset (Fin 3)).fold max ⊥ x = x 0 := by
  refine le_antisymm ?_ ?_
  · rw [Finset.fold_max_le]
    exact ⟨bot_le, fun k _ => h k⟩
  · rw [Finset.le_fold_max]
    exact Or.inr ⟨0, Finset.mem_univ _, le_rfl⟩

/-- The greatest of a row whose first entry is its greatest. -/
theorem max_at (v : S1024x3.Idx → EReal) (q : Fin 1024) (h : ∀ k, v (i2 q k) ≤ v (i2 q 0)) :
    Host.reduce (FloatOps.maximumf (F := Ideal) (φ := .f32)) v (constant (F := Ideal) S_ .f32 0xFF800000#32) Facts₀.reducesTo_S1024x3_S1024_d1 Facts₀.h_S_ (i1 q)
      = v (i2 q 0) := by
  have : Std.Commutative (FloatOps.maximumf (F := Ideal) (φ := .f32)) := ⟨fun a b => max_comm (α := EReal) a b⟩
  have : Std.Associative (FloatOps.maximumf (F := Ideal) (φ := .f32)) := ⟨fun a b c => max_assoc (α := EReal) a b c⟩
  refine (Host.reduce_eq_fold_single _ v _ _ reduces_three _ (i1 q)).trans ?_
  refine Eq.trans ?_ (foldMax_first (fun k => v (i2 q k)) h)
  rw [← ofBits_neg_inf]
  refine congrArg (Finset.fold (α := Fin 3) (β := EReal) max (Ideal.ofBits .f32 0xFF800000#32) · Finset.univ) (funext fun k => ?_)
  exact congrArg v (lift_three q k)

theorem spread_at (x : S1024.Idx → EReal) (q : Fin 1024) (k : Fin 3) :
    broadcastInDim S1024x3 ![0, 1] Facts₀.bcast_S1024x1_S1024x3_0_1 (broadcastInDim S1024x1 ![0] Facts₀.bcast_S1024_S1024x1_0 x) (i2 q k) = x (i1 q) := by
  refine (broadcastInDim_apply _ _ _ _ (i2 q 0) fun a => ?_).trans (broadcastInDim_apply _ _ _ _ (i1 q) fun a => ?_)
  · fin_cases a <;> rfl
  · fin_cases a; rfl

theorem refExp_at (v : S1024x3.Idx → EReal) (q : Fin 1024) (h : ∀ k, v (i2 q k) ≤ v (i2 q 0)) (k : Fin 3) :
    refExp (F := Ideal) v (i2 q k) = Ideal.exp (v (i2 q k) - v (i2 q 0)) := by
  unfold refExp
  refine congrArg (fun z : EReal => Ideal.exp (v (i2 q k) - z)) ((spread_at _ q k).trans ?_)
  refine Eq.trans (congrArg₂ (fun a b : EReal => max a b) ofBits_neg_inf (max_at v q h)) ?_
  exact max_eq_right bot_le

/-- The reference's weights of three finite values in increasing order, negated. -/
theorem refWts_at (v : S1024x3.Idx → EReal) (q : Fin 1024) (a : Fin 3 → ℝ) (hv : ∀ k, v (i2 q k) = -((a k : ℝ) : EReal))
    (h : ∀ k, a 0 ≤ a k) (k : Fin 3) : refWts (F := Ideal) v (i2 q k) = weight (fun k => ((a k : ℝ) : EReal)) k := by
  have hle : ∀ k, v (i2 q k) ≤ v (i2 q 0) := fun k => by
    rw [hv, hv, EReal.neg_le_neg_iff]; exact EReal.coe_le_coe_iff.mpr (h k)
  have he : ∀ k, refExp (F := Ideal) v (i2 q k) = if k = 0 then 1 else expLess (a 0 : ℝ) (a k : ℝ) := fun k => by
    rw [refExp_at v q hle, hv, hv]
    have e : -((a k : ℝ) : EReal) - -((a 0 : ℝ) : EReal) = ((a 0 : ℝ) : EReal) - ((a k : ℝ) : EReal) := by
      rw [← EReal.coe_neg, ← EReal.coe_neg, ← EReal.coe_sub, ← EReal.coe_sub]
      congr 1; ring
    rw [e]
    split
    · next hk =>
      rw [hk, ← EReal.coe_sub, sub_self, Ideal.exp_coe, Real.exp_zero]; rfl
    · rfl
  unfold refWts weight
  refine congrArg₂ Ideal.div (he k) ((spread_at _ q k).trans ?_)
  rw [hostReduceAdd_apply, Ideal.hostReduceAdd_single _ reduces_three]
  refine (congrArg (fun z : EReal => z + _) Ideal.ofBits_zero_f32).trans ((zero_add _).trans ?_)
  refine Eq.trans (Finset.sum_congr rfl fun k _ => (congrArg (refExp (F := Ideal) v) (lift_three q k)).trans (he k)) ?_
  exact (Fin.sum_univ_three _).trans rfl

end reference

end Cert.Proof
-- ==== Proof.Region.lean ====
/-
  The TensorCore pipeline as a region of @main: entered with every unscoped buffer at some contents and the debts of the
  launch, left with the pipeline's two results at the weights and the target numbers, the other buffers as they were.
-/
module

public import proofs.«01_k».proof.Proof.Dat
public import proofs.«01_k».proof.Proof.Gen.KernelIdeal.Launch
public import Idealize.ShloMosaic.Lib.Pipeline.RegionArraysS

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose ucRefs arrRefs afterRegion arrRef)

variable {F : FTy → Type} [FloatOps F]

local notation "𝕄" => MT nD τ sig (HIx 1) (Elt F) ℕ UU ℕ

variable (m : (ℓ : Loc nD τ sig) → Buf (Elt F) ℓ)

abbrev adm (p : Fin 1) : (pcfgs (F := F) p).Adm := (cfgs p).toPCfg_adm

/-- The proof data of the program's one pipeline. -/
abbrev dats (p : Fin 1) (c : Dev nD) : Dat τ (Elt F) (HIx 1) ℕ UU ℕ (cfgs p) c := dat m c

/-- The memory's contents as launched. -/
abbrev V₁ (c : Dev nD) : Valuation τ sig (Elt F) := fun b => m (c, b)

/-- What the TensorCore owes before the SparseCore call. -/
def owe (c : Dev nD) : sProp 𝕄 :=
  iprop(∃ W, ⌜(K (F := F)).WBelow (SparseCore.T c) W (8 * 0)⌝ ∗ owes (c : Thread nD τ) ((K (F := F)).Otc c 0) W)

theorem arr_sub : arrRefs (sig := sig) spec0 ⊆ ucRefs τ sig := by decide

/-- The debts of the launch all lie above the index the pipeline's waits use. -/
theorem Otc_lev (c : Dev nD) (g : GSem nD τ sig) (i : HIx 1) (h : 0 < (K (F := F)).Otc c 0 g i) : 0 < (K (F := F)).lev g i := by
  have := (K (F := F)).lev_of_Otc_pos (n := 0) h
  omega

theorem share_full (c : Dev nD) (w) : (dats m 0 c).share w = fullShare := (dat m c).share_full (fun _ => rfl) w

def region (hm : Masks F) : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody := body_obligation m hm
  hwaits c := Pipeline.cellsWaits_of_cut _ (dats m) none 0 c 0 ((K (F := F)).Otc c 0) (fun _ => rfl)
    (fun _ _ => Finset.mem_univ _) (fun _ _ => le_rfl) (fun g i h => ⟨Finset.mem_univ _, Otc_lev c g i h⟩)
  pre c := iprop(StableHlo.held (c.tc : Thread nD τ) (ucRefs τ sig) (V₁ m c) ∗ owe c)
  post c := iprop(StableHlo.held (c.tc : Thread nD τ) (ucRefs τ sig) (afterRegion (dat m c) (V₁ m c)) ∗ owe c)
  X c := iprop(emp)
  Y c := iprop(emp)
  Z c := StableHlo.held (c.tc : Thread nD τ) (ucRefs τ sig \ arrRefs spec0) (V₁ m c)
  hentry c := by
    rw [Pipeline.ownSems0_none, Pipeline.prefHeld_of_none _ rfl, StableHlo.held_sub_split (c.tc : Thread nD τ) arr_sub (V₁ m c),
      ← Pipeline.arrays_held (pcfgs (F := F)) adm (dats m) (p := 0) launch0.toP c (share_full m c) ((dats m 0 c).arrAt · 0) (V₁ m c) (fun w => rfl)]
    iintro ⟨⟨⟨Ha, HR⟩, HO⟩, -, -⟩
    imodintro
    isplitl [Ha]; · iexact Ha
    isplitr; · iempintro
    isplitl [HO]
    · unfold Dat.owesAt Pipeline.owesWithin Dat.bound owe
      icases HO with ⟨%W, %hW, HO⟩; iexists W; isplitr
      · ipureintro; exact fun p hp => Or.inl (hW p hp)
      iexact HO
    isplitr; · iempintro
    iexact HR
  hin c := by
    rw [show (dats m 0 c).Φ 0 = iprop(∃ s, ⌜(0 : ℕ) ≠ 0 → s = stAt m c 0⌝ ∗ scr c s) from rfl,
      show Pipeline.scopedRest (Pipeline.pin (pcfgs (F := F)) adm 0).spec c = Pipeline.scopedRest spec0 c from rfl, scopedRest0_eq]
    iintro ⟨-, -, ⟨%a0, S0⟩, ⟨%a1, S1⟩, ⟨%a2, S2⟩, ⟨%a3, S3⟩, ⟨%a4, S4⟩, ⟨%a5, S5⟩⟩
    iexists (⟨a0, a1, a2, a3, a4, a5⟩ : St F)
    isplitr; · ipureintro; exact fun h => absurd rfl h
    unfold scr
    isplitl [S0]; · iexact S0
    isplitl [S1]; · iexact S1
    isplitl [S2]; · iexact S2
    isplitl [S3]; · iexact S3
    isplitl [S4]; · iexact S4
    iexact S5
  hout c := by
    rw [Pipeline.ownSems0_none, show (dats m 0 c).Φ (Fin.last (cfgs 0).N) = iprop(∃ s, ⌜(cfgs 0).N ≠ 0 → s = stAt m c (cfgs 0).N⌝ ∗ scr c s) from rfl,
      show Pipeline.scopedRest (Pipeline.pin (pcfgs (F := F)) adm 0).spec c = Pipeline.scopedRest spec0 c from rfl, scopedRest0_eq]
    unfold scr
    iintro ⟨%s, -, S0, S1, S2, S3, S4, S5⟩
    isplitr; · iempintro
    isplitr; · iempintro
    isplitl [S0]; · iexists _; iexact S0
    isplitl [S1]; · iexists _; iexact S1
    isplitl [S2]; · iexists _; iexact S2
    isplitl [S3]; · iexists _; iexact S3
    isplitl [S4]; · iexists _; iexact S4
    iexists _; iexact S5
  hexit c := by
    rw [Pipeline.arrays_held (pcfgs (F := F)) adm (dats m) (p := 0) launch0.toP c (share_full m c) ((dats m 0 c).arrAt · (cfgs 0).N)
        (afterRegion (dat m c) (V₁ m c)) (fun w => (Pipeline.afterRegion_arr (dat m c) (V₁ m c) launch0.win.arr_inj w).symm),
      StableHlo.held_sub_split (c.tc : Thread nD τ) arr_sub (afterRegion (dat m c) (V₁ m c)),
      StableHlo.held_congr (c.tc : Thread nD τ) (S := ucRefs τ sig \ arrRefs spec0) (V := afterRegion (dat m c) (V₁ m c)) (V' := V₁ m c)
        (Pipeline.afterRegion_off (dat m c) (V₁ m c) _)]
    iintro ⟨Ha, HO, -, HR⟩
    imodintro
    isplitl [Ha HR]
    · isplitl [Ha]; · iexact Ha
      iexact HR
    unfold Dat.owesAt Pipeline.owesWithin Dat.bound owe
    icases HO with ⟨%W, %hW, HO⟩; iexists W; isplitr
    · ipureintro
      intro p hp
      rcases hW hp with h | ⟨w, s, h⟩
      · exact h
      · rw [show p.2 = none from by rw [h]]; exact le_rfl
    iexact HO

end Cert.Proof

end
-- ==== Proof.Tile.lean ====
/-
  One tile's task: it copies its 96 row numbers and its 96 weight rows into its scratch, gathers the 96 rows of the
  table those numbers name, sums weight times row over each query's three neighbours, and copies the 32 result rows
  out. Run once, at a symbolic pair of SparseCore and vector subcore, with the contents named throughout.
-/
module

public import proofs.«01_k».proof.Proof.Setup
public import Idealize.ShloMosaic.Lib.Pipeline.Value
public import Idealize.ShloMosaic.Lib.Writes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (ix : (d : Dev nD) → Buf (Elt F) (iLoc d)) (w : (d : Dev nD) → Buf (Elt F) (wLoc d)) (tb : (d : Dev nD) → Buf (Elt F) (tLoc d))
  (o₀ : (d : Dev nD) → Buf (Elt F) (oLoc d))

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The task's place among the thirty-two. -/
abbrev jL (L : grid1.Coords) : Fin 32 := wid (Fin.cast bound_zero (L 0)) (Fin.cast bound_one (L 1))

theorem jL_val : ((jL L : Fin 32) : ℕ) = 2 * (L 1 : ℕ) + (L 0 : ℕ) := rfl

abbrev irowK (L : grid1.Coords) : Rect S3072 := Rect.unit (s := S3072) (k1_off1 L) S96.size (k1_off1_inb L)
abbrev wrowK (L : grid1.Coords) : Rect S3072x16 := Rect.unit (s := S3072x16) (k1_off2 L) S96x16.size (k1_off2_inb L)
abbrev orowK (L : grid1.Coords) : Rect S1024x16 := Rect.unit (s := S1024x16) (k1_off3 L) S32x16.size (k1_off3_inb L)
abbrev iRowK (L : grid1.Coords) : Memref sig .scVector .hbm S96 .i32 := (iV).slice (irowK L) (fun _ => rfl)
abbrev wRowK (L : grid1.Coords) : Memref sig .scVector .hbm S96x16 .f32 := (wV).slice (wrowK L) (fun _ => rfl)
abbrev oRowK (L : grid1.Coords) : Memref sig .scVector .hbm S32x16 .f32 := (oV).slice (orowK L) (fun _ => rfl)
abbrev tAllK : Memref sig .scVector .hbm S100000x16 .f32 := (tV).slice (Rect.unit (s := S100000x16) ![0, 0] S100000x16.size inb_S100000x16_S100000x16_0_0) (fun _ => rfl)

theorem irowK_eq : irowK L = irow (jL L) := by
  unfold irowK irow Rect.part Rect.block
  congr 1 <;> funext a
  · rw [k1_off1_eq]
    match a with
    | 0 => simp [Shape.partIx, Shape.partSize, -Fin.val_cast]; rw [jL_val]; omega
  · match a with
    | 0 => simp [Shape.partSize]
theorem wrowK_eq : wrowK L = wrow (jL L) := by
  unfold wrowK wrow Rect.part Rect.block
  congr 1 <;> funext a
  · rw [k1_off2_eq]
    match a with
    | 0 => simp [Shape.partIx, Shape.partSize, -Fin.val_cast]; rw [jL_val]; omega
    | 1 => simp [Shape.partIx, Shape.partSize]
  · match a with
    | 0 => simp [Shape.partSize]
    | 1 => simp [Shape.partSize]
theorem orowK_eq : orowK L = orow (jL L) := by
  unfold orowK orow Rect.part Rect.block
  congr 1 <;> funext a
  · rw [k1_off3_eq]
    match a with
    | 0 => simp [Shape.partIx, Shape.partSize, -Fin.val_cast]; rw [jL_val]; omega
    | 1 => simp [Shape.partIx, Shape.partSize]
  · match a with
    | 0 => simp [Shape.partSize]
    | 1 => simp [Shape.partSize]

theorem set_iRowK : (iRowK L).view.set = iRowSet (jL L) := by
  show ((iV).view.slice (irowK L)).set = ((iV).view.slice (irow (jL L))).set
  exact irowK_eq L ▸ rfl
theorem set_wRowK : (wRowK L).view.set = wRowSet (jL L) := by
  show ((wV).view.slice (wrowK L)).set = ((wV).view.slice (wrow (jL L))).set
  exact wrowK_eq L ▸ rfl
theorem set_oRowK : (oRowK L).view.set = oRowSet (jL L) := by
  show ((oV).view.slice (orowK L)).set = ((oV).view.slice (orow (jL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
theorem pts_wRowK (f : Buf (Elt F) (wLoc d)) :
    ((wRowK L).view.loc (V d (cV L) (jV L)) ↦[(wRowK L).view.set]{fullShare} f : sProp 𝕄) = wLoc d ↦[wRowSet (jL L)]{fullShare} f := by
  rw [set_wRowK]
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sW (f : Buf (Elt F) ((V d (cV L) (jV L)).loc cc1_scratch1)) :
    ((sW).view.loc (V d (cV L) (jV L)) ↦{fullShare} f : sProp 𝕄) = (V d (cV L) (jV L)).loc cc1_scratch1 ↦{fullShare} f := rfl
theorem pts_sR (f : Buf (Elt F) ((V d (cV L) (jV L)).loc cc1_scratch2)) :
    ((sR).view.loc (V d (cV L) (jV L)) ↦{fullShare} f : sProp 𝕄) = (V d (cV L) (jV L)).loc cc1_scratch2 ↦{fullShare} f := rfl
theorem pts_sO (f : Buf (Elt F) ((V d (cV L) (jV L)).loc cc1_scratch3)) :
    ((sO).view.loc (V d (cV L) (jV L)) ↦{fullShare} f : sProp 𝕄) = (V d (cV L) (jV L)).loc cc1_scratch3 ↦{fullShare} f := rfl

abbrev gcell (d : Dev nD) (c : Fin τ.nSC) (i : Fin τ.nSub) : GSem nD τ sig := (V d c i, .dma cc1_scratch4.sem)
abbrev acell (d : Dev nD) (c : Fin τ.nSC) (i : Fin τ.nSub) : GSem nD τ sig := (V d c i, .dma cc1_scoped0.sem)
abbrev bcell (d : Dev nD) (c : Fin τ.nSC) (i : Fin τ.nSub) : GSem nD τ sig := (V d c i, .dma cc1_scoped1.sem)
abbrev ccell (d : Dev nD) (c : Fin τ.nSC) (i : Fin τ.nSub) : GSem nD τ sig := (V d c i, .dma cc1_scoped2.sem)

/-- The subcore's four counters are among its own. -/
theorem ownSems0_V :
    (ownSems0 (V d (cV L) (jV L)) : sProp 𝕄)
      = iprop(semVal (gcell d (cV L) (jV L)) 0 ∗ semVal (acell d (cV L) (jV L)) 0 ∗ semVal (bcell d (cV L) (jV L)) 0 ∗ semVal (ccell d (cV L) (jV L)) 0
          ∗ bigSep (((((ownCells (V d (cV L) (jV L))).erase (gcell d (cV L) (jV L))).erase (acell d (cV L) (jV L))).erase (bcell d (cV L) (jV L))).erase (ccell d (cV L) (jV L))) fun g => semVal g 0) := by
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  unfold SparseCore.Cfg.ownSems0
  rw [SparseCore.bigSep_erase' ((mem_ownCells (g := gcell d (cV L) (jV L))).mpr ⟨rfl, by
      show (SemLoc.dma cc1_scratch4.sem : SemLoc sig).isScoped .scVector = true; decide⟩),
    SparseCore.bigSep_erase' (Finset.mem_erase.mpr ⟨ne (by decide), (mem_ownCells (g := acell d (cV L) (jV L))).mpr ⟨rfl, by
      show (SemLoc.dma cc1_scoped0.sem : SemLoc sig).isScoped .scVector = true; decide⟩⟩),
    SparseCore.bigSep_erase' (Finset.mem_erase.mpr ⟨ne (by decide), Finset.mem_erase.mpr ⟨ne (by decide),
      (mem_ownCells (g := bcell d (cV L) (jV L))).mpr ⟨rfl, by show (SemLoc.dma cc1_scoped1.sem : SemLoc sig).isScoped .scVector = true; decide⟩⟩⟩),
    SparseCore.bigSep_erase' (Finset.mem_erase.mpr ⟨ne (by decide), Finset.mem_erase.mpr ⟨ne (by decide), Finset.mem_erase.mpr ⟨ne (by decide),
      (mem_ownCells (g := ccell d (cV L) (jV L))).mpr ⟨rfl, by show (SemLoc.dma cc1_scoped2.sem : SemLoc sig).isScoped .scVector = true; decide⟩⟩⟩⟩)]

/-- The four scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have mem : ∀ r : Ref sig .scVector, ((Proc.scVector (cV L) (jV L)).devRef r).owner = .proc (Proc.scVector (cV L) (jV L)) →
      (Proc.scVector (cV L) (jV L)).devRef r ∈ ownRefs (τ := τ) (.scVector (cV L) (jV L)) := fun r h =>
    SparseCore.Cfg.mem_ownRefs_of_owner (p := Proc.scVector (cV L) (jV L)) h
  have ne : ∀ {r r' : Ref sig .scVector}, r ≠ r' → (Proc.scVector (cV L) (jV L)).devRef r ≠ (Proc.scVector (cV L) (jV L)).devRef r' :=
    fun h e => h (Proc.devRef_injective _ e)
  unfold SparseCore.Cfg.ownBufs
  refine (SparseCore.bigSep_erase' (mem cc1_scratch0 rfl)).trans ?_
  rw [SparseCore.bigSep_erase' (Finset.mem_erase.mpr ⟨ne (show (cc1_scratch1 : Ref sig .scVector) ≠ cc1_scratch0 by decide), mem cc1_scratch1 rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), mem cc1_scratch2 rfl⟩⟩),
    SparseCore.bigSep_erase' (Finset.mem_erase.mpr ⟨ne (show (cc1_scratch3 : Ref sig .scVector) ≠ cc1_scratch2 by decide),
      Finset.mem_erase.mpr ⟨ne (show (cc1_scratch3 : Ref sig .scVector) ≠ cc1_scratch1 by decide),
      Finset.mem_erase.mpr ⟨ne (show (cc1_scratch3 : Ref sig .scVector) ≠ cc1_scratch0 by decide), mem cc1_scratch3 rfl⟩⟩⟩)]

/-- What the proof asks of the list: every word names a row of the table. -/
def InRange : Prop := ∀ (d : Dev nD) (j : S3072.Idx), (ix d j).toNat < 100000

variable {ix}

/-- The words the stream reads, the list's own, are in range. -/
theorem inb_of_range (hix : InRange ix) (fs : Buf (Elt F) ((V d (cV L) (jV L)).loc cc1_scratch0)) (pay : S96.Idx → Elt F .i32)
    (hpay : pay = (iRowK L).view.read (Elt F) (ix d)) :
    ∀ x, ((sI).view.read (Elt F) (View.write (Elt F) (sI).view fs pay Finset.univ) x).toNat < S100000x16.size gathers_S100000x16_S96x16.axis := by
  subst hpay; intro x
  rw [View.write_whole_univ]
  simp only [Memref.view_whole, View.read_whole]
  rw [show ∀ j, (iRowK L).view.read (Elt F) (ix d) j = ix d ((iRowK L).view.emb j) from fun j => (View.read_apply _ _).trans (cast_eq _ _)]
  exact hix d _

variable [FloatOps F]

/-! ### The value: the three-term sums -/

/-- Three weight rows and three table rows, multiplied in pairs and summed, as the kernel computes one result row. -/
def fma3 (w0 r0 w1 r1 w2 r2 : Vec F S1x16 .f32) : FVec F S1x16 .f32 :=
  shapeCast S1x16 (addf (addf (mulf (shapeCast S16 w0 shapeCasts_S1x16_S16) (shapeCast S16 r0 shapeCasts_S1x16_S16))
    (mulf (shapeCast S16 w1 shapeCasts_S1x16_S16) (shapeCast S16 r1 shapeCasts_S1x16_S16)))
    (mulf (shapeCast S16 w2 shapeCasts_S1x16_S16) (shapeCast S16 r2 shapeCasts_S1x16_S16))) shapeCasts_S16_S1x16

/-- Row `3 q + k` of a tile's ninety-six. -/
def nb' (q : Fin 32) (k : Fin 3) : Fin 96 := ⟨3 * q.val + k.val, by omega⟩

/-- A tile's result from its weight rows and its gathered rows. -/
def rowSum (wb rb : S96x16.Idx → F .f32) (q : Fin 32) (l : Fin 16) : F .f32 :=
  FloatOps.addf (FloatOps.addf (FloatOps.mulf (wb (i2 (nb' q 0) l)) (rb (i2 (nb' q 0) l)))
    (FloatOps.mulf (wb (i2 (nb' q 1) l)) (rb (i2 (nb' q 1) l)))) (FloatOps.mulf (wb (i2 (nb' q 2) l)) (rb (i2 (nb' q 2) l)))
def rowsOut (wb rb : S96x16.Idx → F .f32) : S32x16.Idx → F .f32 := fun y => rowSum wb rb (y 0) (y 1)

theorem exists_i2 {n k : ℕ} (y : (⟨2, ![n, k]⟩ : Shape).Idx) : ∃ a b, y = i2 a b :=
  ⟨y 0, y 1, funext fun x => match x with | 0 => rfl | 1 => rfl⟩

theorem inb96 (a : Fin 96) : ∀ x, (![a.val, 0] : Fin 2 → ℕ) x + S1x16.size x ≤ S96x16.size x := by
  intro x; have := a.isLt
  match x with
  | 0 => show a.val + 1 ≤ 96; omega
  | 1 => show 0 + 16 ≤ 16; omega
theorem inb32 (q : Fin 32) : ∀ x, (![q.val, 0] : Fin 2 → ℕ) x + S1x16.size x ≤ S32x16.size x := by
  intro x; have := q.isLt
  match x with
  | 0 => show q.val + 1 ≤ 32; omega
  | 1 => show 0 + 16 ≤ 16; omega

/-- Row `a` of a ninety-six-row buffer as the kernel loads it. -/
def rowAt (b : S96x16.Idx → F .f32) (a : Fin 96) : Vec F S1x16 .f32 := fun x =>
  b ((Rect.unit (s := S96x16) ![a.val, 0] S1x16.size (inb96 a)).toLoadRect.idx x)

/-- The store of result row `q`. -/
def outPiece (wb rb : S96x16.Idx → F .f32) (q : Fin 32) : View.Piece (Elt F) S32x16 .f32 :=
  ⟨Rect.unit (s := S32x16) ![q.val, 0] S1x16.size (inb32 q),
    fma3 (rowAt wb (nb' q 0)) (rowAt rb (nb' q 0)) (rowAt wb (nb' q 1)) (rowAt rb (nb' q 1)) (rowAt wb (nb' q 2)) (rowAt rb (nb' q 2))⟩

theorem cast_row (v : Vec F S1x16 .f32) (l : S16.Idx) : shapeCast S16 v shapeCasts_S1x16_S16 l = v (i2 0 (l 0)) :=
  shapeCast_apply v _ l _ (by
    rw [Shape.rowMajor_val_two, Shape.rowMajor_val_one]; show 0 * 16 + (l 0).val = (l 0).val; omega)

theorem rowAt_apply (b : S96x16.Idx → F .f32) (a : Fin 96) (l : Fin 16) : rowAt b a (i2 0 l) = b (i2 a l) := by
  unfold rowAt; congr 1; funext x; apply Fin.ext
  match x with
  | 0 => show a.val + 1 * 0 = a.val; omega
  | 1 => show 0 + 1 * l.val = l.val; omega

theorem fma3_apply (w0 r0 w1 r1 w2 r2 : Vec F S1x16 .f32) (z : Fin 1) (l : Fin 16) :
    fma3 w0 r0 w1 r1 w2 r2 (i2 z l) = FloatOps.addf (FloatOps.addf (FloatOps.mulf (w0 (i2 0 l)) (r0 (i2 0 l)))
      (FloatOps.mulf (w1 (i2 0 l)) (r1 (i2 0 l)))) (FloatOps.mulf (w2 (i2 0 l)) (r2 (i2 0 l))) := by
  have h := shapeCast_apply (t := S1x16) (addf (addf (mulf (shapeCast S16 w0 shapeCasts_S1x16_S16) (shapeCast S16 r0 shapeCasts_S1x16_S16))
    (mulf (shapeCast S16 w1 shapeCasts_S1x16_S16) (shapeCast S16 r1 shapeCasts_S1x16_S16)))
    (mulf (shapeCast S16 w2 shapeCasts_S1x16_S16) (shapeCast S16 r2 shapeCasts_S1x16_S16))) shapeCasts_S16_S1x16 (i2 z l) (i1 l) (by
      rw [Shape.rowMajor_val_two, Shape.rowMajor_val_one]
      show l.val = z.val * 16 + l.val; omega)
  refine h.trans ?_
  show FloatOps.addf (FloatOps.addf (FloatOps.mulf (shapeCast S16 w0 _ _) (shapeCast S16 r0 _ _)) (FloatOps.mulf (shapeCast S16 w1 _ _) (shapeCast S16 r1 _ _)))
    (FloatOps.mulf (shapeCast S16 w2 _ _) (shapeCast S16 r2 _ _)) = _
  rw [cast_row w0 (i1 l), cast_row r0 (i1 l), cast_row w1 (i1 l), cast_row r1 (i1 l), cast_row w2 (i1 l), cast_row r2 (i1 l)]

/-- Each store agrees with the tile's result. -/
theorem outPiece_ok (wb rb : S96x16.Idx → F .f32) (q : Fin 32) (x : (outPiece wb rb q).1.shape.Idx) :
    (outPiece wb rb q).2 x = rowsOut wb rb ((outPiece wb rb q).1.emb x) := by
  obtain ⟨z, l, rfl⟩ := exists_i2 (n := 1) (k := 16) x
  have e : (outPiece wb rb q).1.emb (i2 z l) = i2 q l := by
    funext a; apply Fin.ext
    match a with
    | 0 => show q.val + 1 * z.val = q.val; omega
    | 1 => show 0 + 1 * l.val = l.val; omega
  rw [e]
  refine (fma3_apply _ _ _ _ _ _ z l).trans ?_
  simp only [rowAt_apply]; rfl

/-- The kernel's thirty-two stores, the last first. -/
def outPieces (wb rb : S96x16.Idx → F .f32) : List (View.Piece (Elt F) S32x16 .f32) :=
  (List.finRange 32).reverse.map (outPiece wb rb)

theorem outPieces_cover (wb rb : S96x16.Idx → F .f32) (y : S32x16.Idx) : ∃ p ∈ outPieces wb rb, y ∈ p.1.set := by
  obtain ⟨q, l, rfl⟩ := exists_i2 (n := 32) (k := 16) y
  refine ⟨outPiece wb rb q, List.mem_map_of_mem (List.mem_reverse.mpr (List.mem_finRange q)), (outPiece wb rb q).1.mem_set.mpr fun a => ?_⟩
  match a with
  | 0 => exact ⟨0, Nat.one_pos, by show q.val = q.val + 1 * 0; omega⟩
  | 1 => exact ⟨l.val, l.isLt, by show l.val = 0 + 1 * l.val; omega⟩

theorem read_outPieces (wb rb : S96x16.Idx → F .f32) (fo : Buf (Elt F) ((V d (cV L) (jV L)).loc cc1_scratch3)) (y : S32x16.Idx) :
    (sO).view.read (Elt F) ((sO).view.writes (Elt F) fo (outPieces wb rb)) y = rowsOut wb rb y :=
  View.read_writes_apply_of_pieces _ _ (rowsOut wb rb) _ (fun p hp x => by
    obtain ⟨q, -, rfl⟩ := List.mem_map.mp hp; exact outPiece_ok wb rb q x) y (outPieces_cover wb rb y)

/-- The weight rows the tile copied in. -/
def wbuf (w : (d : Dev nD) → Buf (Elt F) (wLoc d)) (d : Dev nD) (L : grid1.Coords) : S96x16.Idx → F .f32 := (wRowK L).view.read (Elt F) (w d)
/-- The list as the tile copied it in. -/
def ibuf (ix : (d : Dev nD) → Buf (Elt F) (iLoc d)) (d : Dev nD) (L : grid1.Coords) : S96.Idx → BitVec 32 := (iRowK L).view.read (Elt F) (ix d)

/-- Row `96 j + a` of the flattened lists. -/
def rowOf (L : grid1.Coords) (a : Fin 96) : Fin 3072 := ⟨96 * (jL L).val + a.val, by have := (jL L).isLt; omega⟩

theorem wbuf_apply (a : Fin 96) (l : Fin 16) : wbuf w d L (i2 a l) = w d (i2 (rowOf L a) l) := by
  unfold wbuf
  refine ((View.read_apply _ _).trans (cast_eq _ _)).trans (congrArg (w d) (funext fun x => Fin.ext ?_))
  show k1_off2 L x + 1 * ((i2 a l) x).val = _
  rw [k1_off2_eq]
  match x with
  | 0 => show 192 * (L 1).val + 96 * (L 0).val + 1 * a.val = 96 * (2 * (L 1 : ℕ) + (L 0 : ℕ)) + a.val; omega
  | 1 => show 0 + 1 * l.val = l.val; omega
theorem ibuf_apply (a : Fin 96) : ibuf ix d L (i1 a) = ix d (i1 (rowOf L a)) := by
  unfold ibuf
  refine ((View.read_apply _ _).trans (cast_eq _ _)).trans (congrArg (ix d) (funext fun x => Fin.ext ?_))
  show k1_off1 L x + 1 * ((i1 a) x).val = _
  rw [k1_off1_eq]
  match x with
  | 0 => show 192 * (L 1).val + 96 * (L 0).val + 1 * a.val = 96 * (2 * (L 1 : ℕ) + (L 0 : ℕ)) + a.val; omega

/-- The rows the tile gathered. -/
def rbuf (tb : (d : Dev nD) → Buf (Elt F) (tLoc d)) (d : Dev nD) (L : grid1.Coords) (li : S96.Idx → BitVec 32)
    (hn : S96.numel = S96x16.size gathers_S100000x16_S96x16.axis') (h : ∀ x, (li x).toNat < S100000x16.size gathers_S100000x16_S96x16.axis) : S96x16.Idx → F .f32 :=
  SparseCore.gatherPayload gathers_S100000x16_S96x16 ((tAllK).view.read (Elt F) (tb d)) (SparseCore.rows (F := F) li hn h)

theorem rbuf_apply (li : S96.Idx → BitVec 32) (hn) (h) (a : Fin 96) (l : Fin 16) :
    rbuf tb d L li hn h (i2 a l) = tb d (i2 (Fin.ofNat 100000 (li (i1 a)).toNat) l) := by
  have hli : (li (i1 a)).toNat < 100000 := h _
  unfold rbuf SparseCore.gatherPayload
  refine ((View.read_apply _ _).trans (cast_eq _ _)).trans (congrArg (tb d) (funext fun x => Fin.ext ?_))
  show (![0, 0] : Fin 2 → ℕ) x + 1 * ((gathers_S100000x16_S96x16.idx (SparseCore.rows (F := F) li hn h) (i2 a l)) x).val = _
  match x with
  | 0 =>
    have e := Shape.Gathers.idx_axis gathers_S100000x16_S96x16 (SparseCore.rows (F := F) li hn h) (i2 a l)
    have e' : ((gathers_S100000x16_S96x16.idx (SparseCore.rows (F := F) li hn h) (i2 a l)) 0).val
        = (li (S96.rowMajor.symm ((i2 a l : S96x16.Idx) 0 |>.cast hn.symm))).toNat := congrArg Fin.val e
    have e2 : S96.rowMajor.symm ((i2 a l : S96x16.Idx) 0 |>.cast hn.symm) = i1 a := by
      apply S96.rowMajor.injective; rw [Equiv.apply_symm_apply]; apply Fin.ext; rw [Shape.rowMajor_val_one]; rfl
    rw [e', e2]
    show 0 + 1 * _ = (li (i1 a)).toNat % 100000
    rw [Nat.mod_eq_of_lt hli]; omega
  | 1 =>
    rw [Shape.Gathers.idx_of_ne _ _ _ 1 (show ¬ (1 = 0) by decide)]
    show 0 + 1 * l.val = l.val; omega

/-- The tile's result is its rows of the whole result. -/
theorem rowsOut_eq (hn) (h) (y : S32x16.Idx) :
    rowsOut (wbuf w d L) (rbuf tb d L (ibuf ix d L) hn h) y = combine (ix d) (w d) (tb d) ((oRowK L).view.emb y) := by
  obtain ⟨q, l, rfl⟩ := exists_i2 (n := 32) (k := 16) y
  have hq : 32 * (jL L).val + q.val < 1024 := by have := (jL L).isLt; omega
  have hy : (oRowK L).view.emb (i2 q l) = i2 ⟨32 * (jL L).val + q.val, hq⟩ l := by
    funext x; apply Fin.ext
    show k1_off3 L x + 1 * ((i2 q l) x).val = _
    rw [k1_off3_eq]
    match x with
    | 0 => show 64 * (L 1).val + 32 * (L 0).val + 1 * q.val = 32 * (2 * (L 1 : ℕ) + (L 0 : ℕ)) + q.val; omega
    | 1 => show 0 + 1 * l.val = l.val; omega
  rw [hy]
  have hr : ∀ k : Fin 3, rowOf L (nb' q k) = nb ⟨32 * (jL L).val + q.val, hq⟩ k := by
    intro k; apply Fin.ext; show 96 * (jL L).val + (3 * q.val + k.val) = 3 * (32 * (jL L).val + q.val) + k.val; omega
  show rowSum _ _ q l = FloatOps.addf (FloatOps.addf (term _ _ _ (nb ⟨32 * (jL L).val + q.val, hq⟩ 0) l) (term _ _ _ (nb ⟨32 * (jL L).val + q.val, hq⟩ 1) l))
    (term _ _ _ (nb ⟨32 * (jL L).val + q.val, hq⟩ 2) l)
  unfold rowSum term rowNo
  simp only [wbuf_apply, rbuf_apply, ibuf_apply, hr]

theorem rbuf_congr {li li' : S96.Idx → BitVec 32} (e : li = li') (hn) (h) (h') : rbuf tb d L li hn h = rbuf tb d L li' hn h' := by subst e; rfl

theorem copied_eq (fi : Buf (Elt F) ((V d (cV L) (jV L)).loc cc1_scratch0)) (fw : Buf (Elt F) ((V d (cV L) (jV L)).loc cc1_scratch1))
    (fr : Buf (Elt F) ((V d (cV L) (jV L)).loc cc1_scratch2)) (hn) (h) (y : S32x16.Idx) :
    rowsOut ((sW).view.read (Elt F) (View.write (Elt F) (sW).view fw (wbuf w d L) Finset.univ))
      ((sR).view.read (Elt F) (View.write (Elt F) (sR).view fr (rbuf tb d L
        ((sI).view.read (Elt F) (View.write (Elt F) (sI).view fi (ibuf ix d L) Finset.univ)) hn h) Finset.univ)) y
      = combine (ix d) (w d) (tb d) ((oRowK L).view.emb y) := by
  have e1 : (sI).view.read (Elt F) (View.write (Elt F) (sI).view fi (ibuf ix d L) Finset.univ) = ibuf ix d L :=
    View.write_whole_univ (Val := Elt F) cc1_scratch0 fi (ibuf ix d L)
  have e2 : (sW).view.read (Elt F) (View.write (Elt F) (sW).view fw (wbuf w d L) Finset.univ) = wbuf w d L :=
    View.write_whole_univ (Val := Elt F) cc1_scratch1 fw (wbuf w d L)
  have e3 : ∀ b : S96x16.Idx → F .f32, (sR).view.read (Elt F) (View.write (Elt F) (sR).view fr b Finset.univ) = b :=
    fun b => View.write_whole_univ (Val := Elt F) cc1_scratch2 fr b
  have h' : ∀ x, (ibuf ix d L x).toNat < S100000x16.size gathers_S100000x16_S96x16.axis := fun x => e1 ▸ h x
  rw [e2, e3, rbuf_congr tb d L e1 hn h h']
  exact rowsOut_eq w tb d L hn h' y

set_option maxHeartbeats 40000000 in
set_option maxRecDepth 65536 in
theorem tile_body (hF : (K (F := F)).Facts) (hix : InRange ix) (O : CellTallies nD τ sig (HIx 1)) (W : Waits sig (HIx 1)) (hO : ∀ g, O g none = 0) :
    iprop(levAts (K (F := F)).L (K (F := F)).lev ∗ emp
        ∗ (iRowPts ix d (jL L) ∗ wRowPts w d (jL L) ∗ tShPts tb d (jL L) ∗ oRowPts d (jL L) (o₀ d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L iV (Memref.isWhole_whole _) wV (Memref.isWhole_whole _) tV (Memref.isWhole_whole _) oV (Memref.isWhole_whole _)
            sI (Memref.isWhole_whole _) sW (Memref.isWhole_whole _) sR (Memref.isWhole_whole _) sO (Memref.isWhole_whole _) cc1_scratch4 cc1_scoped0 cc1_scoped1 cc1_scoped2)
          fun _ => iprop(outPts ix w tb d (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel;
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel k1_part21_skel k1_part22_skel k1_part23_skel
  rw [(K (F := F)).scopedBufs_V hF d (cV L) (jV L), SparseCore.Cfg.scopedSems0_V (Val := Elt F) d (cV L) (jV L), ownSems0_V, ownBufs_V]
  iintro ⟨#Hlv, -, ⟨Hi, Hw, Ht, Ho⟩, ⟨⟨%fi, Hsi⟩, ⟨%fw, Hsw⟩, ⟨%fr, Hsr⟩, ⟨%fo, Hso⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hw' := (Entails.of_eq (pts_wRowK (F := F) d L _).symm) $$ Hw
  ihave Ho' := (Entails.of_eq (pts_oRowK (F := F) d L _).symm) $$ Ho
  ihave Ht' := (Entails.of_eq (pts_tV (F := F) d L _ _).symm) $$ Ht
  ihave Hsi' := (Entails.of_eq (pts_sI (F := F) d L _).symm) $$ Hsi
  ihave Hsw' := (Entails.of_eq (pts_sW (F := F) d L _).symm) $$ Hsw
  ihave Hsr' := (Entails.of_eq (pts_sR (F := F) d L _).symm) $$ Hsr
  ihave Hso' := (Entails.of_eq (pts_sO (F := F) d L _).symm) $$ Hso
  sl_exec
  have hrs : (sR).view.set = Finset.univ := View.set_whole _
  have hss : (sI).view.set = Finset.univ := View.set_whole _
  ihave Hts := (pointsTo_split_subset (q := Transfers.shareTok fullShare 32 (jL L)) (f := tb d) (S := Finset.univ) (Finset.subset_univ (tAllK).view.set)).1 $$ Ht'
  icases Hts with ⟨Hts, -⟩
  ihave Hsr2 := (Entails.of_eq (show ((sR).view.loc (V d (cV L) (jV L)) ↦{fullShare} fr : sProp 𝕄)
      = (sR).view.loc (V d (cV L) (jV L)) ↦[(sR).view.set]{fullShare} fr by rw [hrs])) $$ Hsr'
  ihave Hsi2 := (Entails.of_eq (show ((sI).view.loc (V d (cV L) (jV L)) ↦{fullShare} View.write (Elt F) (sI).view fi (tile_body.sl.dma0 (ix := ix) d L) Finset.univ : sProp 𝕄)
      = (sI).view.loc (V d (cV L) (jV L)) ↦[(sI).view.set]{fullShare} View.write (Elt F) (sI).view fi (tile_body.sl.dma0 (ix := ix) d L) Finset.univ
      by rw [hss])) $$ Hsi'
  have hN : ∀ h : S100000x16.Gathers 0 S96x16, ∑ j, ((sR).slice (S96x16.rowRect h.axis' j) (S96x16.stride_rowRect h.axis' j)).view.dmaCredit
      = (sR).view.dmaCredit := by decide
  iapply (SparseCore.wp_indirectGatherLocal countersEmb 𝒱₀ (V d (cV L) (jV L)) none (hg := gathers_S100000x16_S96x16) (default : HIx 1)
      (sR).view.dmaCredit (hN _) (by decide) (inb_of_range d L hix fi _ rfl)) $$ [Hts Hsr2 Hsi2 HsemG]
  · isplitl [Hts]; · iexact Hts
    isplitl [Hsr2]; · iexact Hsr2
    isplitl [Hsi2]; · iexact Hsi2
    iexact HsemG
  iintro Hfl
  sl_exec
  iapply (Transfers.wp_waitLocalO countersEmb 𝒱₀ (V d (cV L) (jV L)) none (default : HIx 1) (rfl : (sR).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hsr2, -, Hsi2⟩, HsemG, HO⟩
  ihave Hsr3 := (Entails.of_eq (show ((sR).view.loc (V d (cV L) (jV L)) ↦[(sR).view.set]{fullShare} _ : sProp 𝕄)
      = (sR).view.loc (V d (cV L) (jV L)) ↦{fullShare} _ by rw [hrs])) $$ Hsr2
  sl_exec
  have hL : tile_body.sl.Hso'_32 w tb d L hix fi fw fr
      = outPieces ((sW).view.read (Elt F) (View.write (Elt F) (sW).view fw (wbuf w d L) Finset.univ))
          ((sR).view.read (Elt F) (View.write (Elt F) (sR).view fr (rbuf tb d L
            ((sI).view.read (Elt F) (View.write (Elt F) (sI).view fi (ibuf ix d L) Finset.univ)) k1_part1_skel._proof_10 (inb_of_range d L hix fi _ rfl)) Finset.univ)) := rfl
  have hval : ∀ i ∈ (oRowK L).view.set,
      (oRowK L).view.writes (Elt F) (o₀ d) [⟨Rect.whole S32x16, tile_body.sl.dma256 w tb d L hix fi fw fr fo⟩] i = combine (ix d) (w d) (tb d) i := by
    intro i hi
    obtain ⟨y, -, rfl⟩ := Finset.mem_map.mp hi
    have h1 := View.read_writes_cons_emb (oRowK L).view (o₀ d) (Rect.whole S32x16) (tile_body.sl.dma256 w tb d L hix fi fw fr fo) [] y
    rw [Rect.emb_whole_apply] at h1
    rw [View.read_apply, cast_eq] at h1
    refine h1.trans ?_
    show (sO).view.read (Elt F) ((sO).view.writes (Elt F) fo (tile_body.sl.Hso'_32 w tb d L hix fi fw fr)) y = _
    rw [hL, read_outPieces]
    exact copied_eq w tb d L fi fw fr _ _ y
  ihave Ho2 := (Entails.of_eq (pointsTo_congr hval)) $$ Ho'
  sl_step
  isplitl [Ho2]; · iapply (Entails.of_eq (pts_oRowK (F := F) d L _)); iexact Ho2
  isplitl [Hsi2 Hsw' Hsr3 Hso' Hbufs]
  · isplitl [Hsi2]; · iexists _; iapply (Entails.of_eq (show ((sI).view.loc (V d (cV L) (jV L)) ↦[(sI).view.set]{fullShare} _ : sProp 𝕄)
      = (sI).view.loc (V d (cV L) (jV L)) ↦{fullShare} _ by rw [hss])); iexact Hsi2
    isplitl [Hsw']; · iexists _; iexact Hsw'
    isplitl [Hsr3]; · iexists _; iexact Hsr3
    isplitl [Hso']; · iexists _; iexact Hso'
    iexact Hbufs
  isplitl [HsemA HsemB HsemC HsemG Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The pair of coordinates. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          iV (Memref.isWhole_whole _) wV (Memref.isWhole_whole _) tV (Memref.isWhole_whole _) oV (Memref.isWhole_whole _)
            sI (Memref.isWhole_whole _) sW (Memref.isWhole_whole _) sR (Memref.isWhole_whole _) sO (Memref.isWhole_whole _) cc1_scratch4 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation to the call. -/
theorem tileObl (hF : (K (F := F)).Facts) (hix : InRange ix) : (K (F := F)).TileObl (D (F := F)) 𝒱 (P ix w tb o₀) v₀ 0 := by
  intro d c i O W hO _ _
  simp only [show (P ix w tb o₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body w tb o₀ d (coordsV ⟨_, hci.1⟩ ⟨_, hci.2⟩) hF hix O W hO).trans (wp_mono frame _ _ fun _ => obl_post)

end Tile

section Split
variable [FloatOps F]

theorem split_id (A B : sProp 𝕄) : A ⊢ |={Set.univ}=> iprop(A ∗ (B -∗ B)) := by
  iintro H; imodintro
  isplitl [H]; · iexact H
  iintro H; iexact H

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the call hands a SparseCore is what its tiles take, and what they bring back is what it returns. -/
theorem vecSplit : (K (F := F)).VecSplit' (P ix w tb o₀) 0 := by
  intro d c
  show iprop(bigSep Finset.univ fun i : Fin 16 => inPts ix w tb o₀ d (wid (Fin.cast nCore_zero c) i)) ⊢ |={Set.univ}=> iprop(
      (bigSep Finset.univ fun i : Fin ((K (F := F)).nSub 0) => inPts ix w tb o₀ d (wid (Fin.cast nCore_zero c) (Fin.cast nSub_zero i)))
      ∗ ((bigSep Finset.univ fun i : Fin ((K (F := F)).nSub 0) => outPts ix w tb d (wid (Fin.cast nCore_zero c) (Fin.cast nSub_zero i)))
          -∗ bigSep Finset.univ fun i : Fin 16 => outPts ix w tb d (wid (Fin.cast nCore_zero c) i)))
  rw [bigSep_tasks (F := F) (fun i => inPts ix w tb o₀ d (wid (Fin.cast nCore_zero c) i)),
    bigSep_tasks (F := F) (fun i => outPts ix w tb d (wid (Fin.cast nCore_zero c) i))]
  exact split_id _ _

end Split

end Cert.Proof

end
-- ==== Proof.Split.lean ====
/-
  How the SparseCore call's operands split among the thirty-two tiles and how their results join.
-/
module

public import proofs.«01_k».proof.Proof.Tile
public import Idealize.ShloMosaic.Lib.Pipeline.Value
public import Idealize.ShloMosaic.Lib.Writes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem iRowSet_eq (i : Fin 32) : iRowSet i = (irow i).set := by
  show ((View.whole (main_v7_scv : Ref sig .scVector)).slice (irow i)).set = _
  rw [View.set_slice]; exact Finset.map_refl
theorem wRowSet_eq (i : Fin 32) : wRowSet i = (wrow i).set := by
  show ((View.whole (main_v6_scv : Ref sig .scVector)).slice (wrow i)).set = _
  rw [View.set_slice]; exact Finset.map_refl
theorem oRowSet_eq (i : Fin 32) : oRowSet i = (orow i).set := by
  show ((View.whole (main_v8_scv : Ref sig .scVector)).slice (orow i)).set = _
  rw [View.set_slice]; exact Finset.map_refl

theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem wrows_disjoint : ∀ i ∈ (Finset.univ : Finset (Fin 32)), ∀ j ∈ (Finset.univ : Finset (Fin 32)), i ≠ j → Disjoint (wRowSet i) (wRowSet j) :=
  fun i _ j _ h => by rw [wRowSet_eq, wRowSet_eq]; exact Rect.part_disjoint wdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem wrows_cover : (Finset.univ : Finset (Fin 32)).biUnion wRowSet = Finset.univ :=
  (Finset.biUnion_congr rfl fun i _ => wRowSet_eq i).trans (Rect.biUnion_part wdiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, irows_cover]; try rfl
theorem wPts_rows (d : Dev nD) (f : Buf (Elt F) (wLoc d)) :
    (wLoc d ↦{fullShare} f : sProp 𝕄) = bigSep Finset.univ fun i : Fin 32 => wLoc d ↦[wRowSet i]{fullShare} f := by
  rw [← pointsTo_biUnion Finset.univ (ℓ := wLoc d) wRowSet wrows_disjoint, wrows_cover]; try rfl
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl

/-- Tiles by SparseCore and subcore are tiles by number. -/
def widE : Fin 2 × Fin 16 ≃ Fin 32 where
  toFun p := wid p.1 p.2
  invFun i := (⟨i.val % 2, by omega⟩, ⟨i.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv i := Fin.ext (by show 2 * (i.val / 2) + i.val % 2 = i.val; omega)

theorem bigSep_wid (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widE Φ, bigSep_univ_prod]
  exact bigSep_congr fun _ _ => rfl

variable (ix : (d : Dev nD) → Buf (Elt F) (iLoc d)) (w : (d : Dev nD) → Buf (Elt F) (wLoc d)) (tb : (d : Dev nD) → Buf (Elt F) (tLoc d))
  (o₀ : (d : Dev nD) → Buf (Elt F) (oLoc d))
variable [FloatOps F]

theorem in_split (d : Dev nD) :
    (iprop((iLoc d ↦{fullShare} ix d) ∗ (wLoc d ↦{fullShare} w d) ∗ (tLoc d ↦{fullShare} tb d) ∗ (oLoc d ↦{fullShare} o₀ d)) : sProp 𝕄)
      ⊢ bigSep Finset.univ (inPts ix w tb o₀ d) := by
  rw [iPts_rows, wPts_rows, oPts_rows]
  unfold inPts
  rw [bigSep_sep', bigSep_sep', bigSep_sep']
  iintro ⟨Hi, Hw, Ht, Ho⟩
  isplitl [Hi]; · iexact Hi
  isplitl [Hw]; · iexact Hw
  isplitr [Ho]
  · ihave Ht2 := (Transfers.pointsTo_toks_split (ℓ := tLoc d) (S := Finset.univ) (f := tb d) fullShare 32) $$ Ht
    icases Ht2 with ⟨-, Ht2⟩
    iexact Ht2
  · iexact Ho

/-- The call's four operands are what the two SparseCores are handed. -/
theorem st_intro (d : Dev nD) :
    (iprop((iLoc d ↦{fullShare} ix d) ∗ (wLoc d ↦{fullShare} w d) ∗ (tLoc d ↦{fullShare} tb d) ∗ (oLoc d ↦{fullShare} o₀ d)) : sProp 𝕄)
      ⊢ bigSep Finset.univ fun c : Fin ((K (F := F)).nCore 0) => (P ix w tb o₀).st 0 d c :=
  (in_split ix w tb o₀ d).trans (Entails.of_eq (bigSep_wid (inPts ix w tb o₀ d)).symm)

/-- What the two SparseCores hand back is the whole result. -/
theorem dn_elim (d : Dev nD) :
    (bigSep Finset.univ fun c : Fin ((K (F := F)).nCore 0) => (P ix w tb o₀).dn 0 d c)
      ⊢ (oLoc d ↦{fullShare} combine (ix d) (w d) (tb d) : sProp 𝕄) :=
  (Entails.of_eq (bigSep_wid (outPts ix w tb d))).trans (Entails.of_eq (oPts_rows d _).symm)

end Cert.Proof

end
-- ==== Proof.Main.lean ====
/-
  The kernel's @main and its run: the TensorCore pipeline, the host operations between, the SparseCore call, the final
  slice. The result buffer and the arguments are read off the buffers @main still holds at its end.
-/
module

public import proofs.«01_k».proof.Proof.Region
public import proofs.«01_k».proof.Proof.Tile
public import proofs.«01_k».proof.Proof.Split
public import Idealize.ShloMosaic.Lib.SparseCore.Quiescent

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg ucRefs afterRegion arrRef)
open Idealize.ShloMosaic.StableHlo (held after seq TRef)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's operations -/

/-- The host operations between the two calls. -/
abbrev midOps : List (HloOp τ sig (Elt F)) :=
  [StableHlo.unary main_v0_0 main_v1 ((extractStridedSlice S1024x3 ![0, 0] · slices_S1024x8_S1024x3_0_0) : (⟨S1024x8, .f32⟩ : BufTy).Contents (Elt F) → (⟨S1024x3, .f32⟩ : BufTy).Contents (Elt F)),
   StableHlo.unary main_v0_1 main_v2 ((extractStridedSlice S1024x3 ![0, 0] · slices_S1024x8_S1024x3_0_0) : (⟨S1024x8, .i32⟩ : BufTy).Contents (Elt F) → (⟨S1024x3, .i32⟩ : BufTy).Contents (Elt F)),
   StableHlo.nullary main_c (constantI S_ 32 0#32),
   TRef.unary (.of main_c : TRef sig ⟨S_, .i32⟩) main_call0.v0 (sitofp .f32),
   TRef.binary (.of main_arg2 : TRef sig ⟨S100000x3, .f32⟩) main_call0.v0 main_call0.v1 (fun x v => pad S100000x16 ![0, 0] ![0, 13] ![0, 0] x v pads_S100000x3_S100000x16_000_0130 h_S_),
   StableHlo.reshape main_v1 main_v4 (rfl : (.f32 : EltTy) = .f32) shapeCasts_S1024x3_S3072,
   StableHlo.unary main_v4 main_v5 (broadcastInDim S3072x1 ![0] bcast_S3072_S3072x1_0 : (⟨S3072, .f32⟩ : BufTy).Contents (Elt F) → (⟨S3072x1, .f32⟩ : BufTy).Contents (Elt F)),
   StableHlo.unary main_v5 main_v6 (broadcastInDim S3072x16 ![0, 1] bcast_S3072x1_S3072x16_0_1 : (⟨S3072x1, .f32⟩ : BufTy).Contents (Elt F) → (⟨S3072x16, .f32⟩ : BufTy).Contents (Elt F)),
   StableHlo.reshape main_v2 main_v7 (rfl : (.i32 : EltTy) = .i32) shapeCasts_S1024x3_S3072]

/-- The operation after the SparseCore call. -/
abbrev endOps : List (HloOp τ sig (Elt F)) :=
  [StableHlo.unary main_v8 main_v9 ((extractStridedSlice S1024x3 ![0, 0] · slices_S1024x16_S1024x3_0_0) : (⟨S1024x16, .f32⟩ : BufTy).Contents (Elt F) → (⟨S1024x3, .f32⟩ : BufTy).Contents (Elt F))]

theorem main_eq (d : Dev nD) : main (F := F) d =
    (Prog.lift (.customCall (SparseCore.inner (Pipeline.entry 0)) ()) >>= fun _ => seq midOps >>= fun _ => (K (F := F)).run d 0 >>= fun _ =>
      seq endOps >>= fun _ => pure ⟨⟩) := rfl

/-! ## The contents at each stage -/

/-- After the host operations between the calls. -/
def V₂ (d : Dev nD) : Valuation τ sig (Elt F) := after midOps (afterRegion (dat m d) (V₁ m d))

def ixv (d : Dev nD) : Buf (Elt F) (iLoc d) := V₂ m d (Proc.devRef .tc main_v7)
def wv (d : Dev nD) : Buf (Elt F) (wLoc d) := V₂ m d (Proc.devRef .tc main_v6)
def tv (d : Dev nD) : Buf (Elt F) (tLoc d) := V₂ m d (Proc.devRef .tc main_v3)
def ov (d : Dev nD) : Buf (Elt F) (oLoc d) := V₂ m d (Proc.devRef .tc main_v8)

/-- After the SparseCore call. -/
def V₃ (d : Dev nD) : Valuation τ sig (Elt F) :=
  Function.update (V₂ m d) (Proc.devRef .tc main_v8) (combine (ixv m d) (wv m d) (tv m d))

/-- At the end. -/
def V₄ (d : Dev nD) : Valuation τ sig (Elt F) := after endOps (V₃ m d)

/-- The buffers handed to the SparseCore, and those still held at the end. -/
abbrev scRefs : Finset (DevRef τ sig) := {Proc.devRef .tc main_v7, Proc.devRef .tc main_v6, Proc.devRef .tc main_v3, Proc.devRef .tc main_v8}
abbrev keepRefs : Finset (DevRef τ sig) := ucRefs τ sig \ scRefs
abbrev endRefs : Finset (DevRef τ sig) := insert (Proc.devRef .tc main_v8) keepRefs

theorem scRefs_sub : scRefs ⊆ ucRefs τ sig := by decide

theorem v8_not_keep : (Proc.devRef .tc main_v8 : DevRef τ sig) ∉ keepRefs := by decide

theorem held_sc (d : Dev nD) (V : Valuation τ sig (Elt F)) : (held (d.tc : Thread nD τ) scRefs V : sProp 𝕄) =
    iprop((iLoc d ↦{fullShare} V (Proc.devRef .tc main_v7)) ∗ (wLoc d ↦{fullShare} V (Proc.devRef .tc main_v6))
      ∗ (tLoc d ↦{fullShare} V (Proc.devRef .tc main_v3)) ∗ oLoc d ↦{fullShare} V (Proc.devRef .tc main_v8)) := by
  unfold held
  rw [SparseCore.bigSep_insert' (by decide), SparseCore.bigSep_insert' (by decide), SparseCore.bigSep_insert' (by decide), bigSep_singleton]

theorem held_end (d : Dev nD) : (held (d.tc : Thread nD τ) endRefs (V₃ m d) : sProp 𝕄) =
    iprop((oLoc d ↦{fullShare} combine (ixv m d) (wv m d) (tv m d)) ∗ held (d.tc : Thread nD τ) keepRefs (V₂ m d)) := by
  rw [StableHlo.held_congr (d.tc : Thread nD τ) (S := keepRefs) (V := V₂ m d) (V' := V₃ m d)
    (fun b hb => (Function.update_of_ne (fun (h : b = Proc.devRef .tc main_v8) => v8_not_keep (h ▸ hb)) _ _).symm)]
  unfold held
  rw [SparseCore.bigSep_insert' v8_not_keep, show V₃ m d (Proc.devRef .tc main_v8) = combine (ixv m d) (wv m d) (tv m d) from Function.update_self _ _ _]

theorem midOps_sub : ∀ op ∈ (midOps : List (HloOp τ sig (Elt F))), op.bufs ⊆ ucRefs τ sig := by
  intro op h
  refine Pipeline.sub_ucRefs op ?_
  fin_cases h
  · exact StableHlo.unary_bufs_sub ..
  · exact StableHlo.unary_bufs_sub ..
  · exact StableHlo.nullary_bufs_sub ..
  · exact StableHlo.unary_bufs_sub ..
  · exact StableHlo.binary_bufs_sub ..
  · exact StableHlo.reshape_bufs_sub ..
  · exact StableHlo.unary_bufs_sub ..
  · exact StableHlo.unary_bufs_sub ..
  · exact StableHlo.reshape_bufs_sub ..

theorem endOps_sub : ∀ op ∈ (endOps : List (HloOp τ sig (Elt F))), op.bufs ⊆ endRefs := by
  intro op h
  rw [List.mem_singleton.mp h]
  show ({Proc.devRef .tc main_v8, Proc.devRef .tc main_v9} : Finset (DevRef τ sig)) ⊆ endRefs
  decide

/-! ## The launch element of the ghost state -/

theorem pin_inj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) pin_inj) (Pipeline.launchToks (Pipeline.pin (pcfgs (F := F)) adm) pin_inj), 1))

/-- What @main starts with for its pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ghost_split :
    iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c))
      ⊢ (bigSep Finset.univ fun d : Dev nD => G d : sProp 𝕄) := by
  refine Entails.of_eq ?_
  rw [bigSep_sep']
  exact congrArg₂ (fun A B : sProp 𝕄 => iprop(A ∗ B)) (bigSep_congr fun _ _ => bigSep_univ_of_subsingleton (0 : Fin 1))
    (bigSep_congr fun _ _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (ixv m) (wv m) (tv m) (ov m)).x q thr) := by
  unfold u₀
  iintro Hu
  ihave H := (ownU_pair (initOf (K (F := F)).hsCells (K (F := F)).hsToks)
    ((initOf (Pipeline.cells (Pipeline.pin (pcfgs (F := F)) adm) pin_inj) (Pipeline.launchToks (Pipeline.pin (pcfgs (F := F)) adm) pin_inj), 1) : UP × Counters)) $$ Hu
  icases H with ⟨HH, HP⟩
  ihave HP' := (own_pair_emb embR (initOf (Pipeline.cells (Pipeline.pin (pcfgs (F := F)) adm) pin_inj) (Pipeline.launchToks (Pipeline.pin (pcfgs (F := F)) adm) pin_inj)) (1 : Counters)) $$ HP
  icases HP' with ⟨HP, -⟩
  imod (Pipeline.fund_ghost (Pipeline.pin (pcfgs (F := F)) adm) EP pin_inj) $$ HP with ⟨Hc, Ht⟩
  imodintro
  isplitl [HH]; · iexact HH
  isplitl
  · iapply (ghost_split (F := F))
    isplitl [Hc] <;> iassumption
  rw [show (bigSep Finset.univ fun thr : Thread nD τ => bigSep Finset.univ fun q : Fin 1 => (P (ixv m) (wv m) (tv m) (ov m)).x q thr)
    = bigSep Finset.univ fun _ => iprop(emp) from bigSep_congr fun _ _ => bigSep_univ_of_subsingleton (0 : Fin 1)]
  iapply (Entails.of_eq (bigSep_emp_const (Finset.univ : Finset (Thread nD τ))).symm)
  iempintro

/-! ## @main on the TensorCore -/

/-- What is left of the TensorCore's launch state beside its debts. -/
def tcLeft (d : Dev nD) : sProp 𝕄 :=
  iprop(∃ P : sProp 𝕄, ⌜(K (F := F)).tcSt EH d 0 = iprop(owe d ∗ P)⌝ ∗ P)

theorem tcSt_out (d : Dev nD) : (K (F := F)).tcSt EH d 0 ⊢ iprop(owe d ∗ tcLeft (F := F) d) := by
  iintro H
  unfold tcLeft
  ihave H' := (Entails.of_eq (show (K (F := F)).tcSt EH d 0 = iprop(owe d ∗ _) from rfl)) $$ H
  icases H' with ⟨HO, HR⟩
  isplitl [HO]; · iexact HO
  iexists _
  isplitr; · ipureintro; rfl
  iexact HR

theorem tcSt_in (d : Dev nD) : iprop(owe d ∗ tcLeft (F := F) d) ⊢ (K (F := F)).tcSt EH d 0 := by
  unfold tcLeft
  iintro ⟨HO, %R, %h, HR⟩
  rw [h]
  isplitl [HO]; · iexact HO
  iexact HR

/-- The pipeline's launch, as the lifted launch. -/
theorem lift0 : (Prog.lift (.customCall (SparseCore.inner (Pipeline.entry 0)) ()) : Prog (TpuEff nD τ sig (Elt F) (SparseCore.Sig (ΛP (F := F)) 1) .tc) PUnit)
    = SparseCore.liftProg (Prog.op (.customCall (Pipeline.entry 0) ()) .ret : Prog (TpuEff nD τ sig (Elt F) (ΛP (F := F)) .tc) PUnit) := rfl

/-- The pipeline's call in the SparseCore program. -/
theorem call0 [∀ e, Nonempty (Elt F e)] (hm : Masks F) (d : Dev nD) (Q : PUnit → sProp 𝕄) :
    iprop((boundary (d.tc : Thread nD τ) ∗ (held (d.tc : Thread nD τ) (ucRefs τ sig) (V₁ m d) ∗ owe d) ∗ levAts (K (F := F)).L (K (F := F)).lev ∗ G d)
        ∗ ((boundary (d.tc : Thread nD τ) ∗ held (d.tc : Thread nD τ) (ucRefs τ sig) (afterRegion (dat m d) (V₁ m d)) ∗ owe d) -∗ Q ⟨⟩))
      ⊢ wp frame (wpE ((K (F := F)).defs (D (F := F))) 𝒱 (SparseCore.T d) none) Set.univ
          (Prog.lift (.customCall (SparseCore.inner (Pipeline.entry 0)) ())) Q := by
  rw [lift0]
  iintro ⟨⟨Hb, Hp, Hl, Hc, Ht⟩, Hk⟩
  iapply ((K (F := F)).wp_liftProg (D (F := F)) 𝒱₀.lift (SparseCore.T d) Set.univ none (.op (.customCall (Pipeline.entry 0) ()) .ret) Q)
  iapply (Pipeline.RegionSeg.wp (pcfgs (F := F)) adm (dats m) none pin_inj EP defs₀ 𝒱₀ (K (F := F)).L (K (F := F)).lev (region m hm) d none
    (fun _ h => nomatch h) .ret Q)
  isplitl [Hk]
  · iintro H
    rw [show (region m hm).post d = iprop(held (d.tc : Thread nD τ) (ucRefs τ sig) (afterRegion (dat m d) (V₁ m d)) ∗ owe d) from rfl]
    ihave HQ := Hk $$ H
    rw [show (Prog.ret (PUnit.unit) : Prog (TpuEff nD τ sig (Elt F) (ΛP (F := F)) .tc) PUnit) = pure ⟨⟩ from rfl, wp_pure]
    imodintro; iexact HQ
  isplitl [Hb]; · iexact Hb
  isplitl [Hp]
  · rw [show (region m hm).pre d = iprop(held (d.tc : Thread nD τ) (ucRefs τ sig) (V₁ m d) ∗ owe d) from rfl]
    iexact Hp
  isplitl [Hl]; · iexact Hl
  isplitl [Hc]; · iexact Hc
  iexact Ht

/-- What @main ends with. -/
abbrev FIN (d : Dev nD) : sProp 𝕄 := held (d.tc : Thread nD τ) endRefs (V₄ m d)

theorem hmain [∀ e, Nonempty (Elt F e)] (hm : Masks F) (κ : GSem nD τ sig → ℕ) (d : Dev nD) :
    iprop((K (F := F)).ctx EH (P (ixv m) (wv m) (tv m) (ov m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (V₁ m d)
    from Pipeline.unscopedBufs_held d (V₁ m d), main_eq, wp_bind]
  iintro ⟨#Hctx, Hst, ⟨Hb, Hh, Hts, -⟩, HG⟩
  ihave Hst' := (tcSt_out d) $$ Hst
  icases Hst' with ⟨HO, Hst⟩
  ihave #Hlev := ((K (F := F)).ctx_levAts (EH := EH) (P := P (ixv m) (wv m) (tv m) (ov m)) κ) $$ Hctx
  iapply (call0 m hm d _)
  isplitl [Hb Hh HO HG]
  · isplitl [Hb]; · iexact Hb
    isplitl [Hh HO]
    · isplitl [Hh]; · iexact Hh
      iexact HO
    isplitr; · iexact Hlev
    iexact HG
  iintro ⟨Hb, Hh, HO⟩
  ihave Hst := (tcSt_in d) $$ [HO Hst]
  · isplitl [HO] <;> iassumption
  iapply (StableHlo.wp_seq (defs := (K (F := F)).defs (D (F := F))) 𝒱 none Set.univ d (ucRefs τ sig) _ midOps midOps_sub
    (by intro _ h; (repeat (cases h with | head => rfl | tail _ h => ?_)); exact nomatch h) (afterRegion (dat m d) (V₁ m d))) $$ [Hb Hh]
  · isplitl [Hb]; · iexact Hb
    iexact Hh
  iintro ⟨Hb, Hh⟩
  rw [wp_bind]
  ihave Hh' := (Entails.of_eq (show (held (d.tc : Thread nD τ) (ucRefs τ sig) (after midOps (afterRegion (dat m d) (V₁ m d))) : sProp 𝕄) = _ from
    StableHlo.held_sub_split (d.tc : Thread nD τ) scRefs_sub (V₂ m d))) $$ Hh
  icases Hh' with ⟨Hsc, Hkeep⟩
  ihave Hsc' := (Entails.of_eq (held_sc d (V₂ m d))) $$ Hsc
  iapply ((K (F := F)).wp_run (D (F := F)) 𝒱 (EH := EH) (P := P (ixv m) (wv m) (tv m) (ov m)) κ d 0)
  isplitr; · iexact Hctx
  isplitl [Hst]; · iexact Hst
  isplitl [Hsc']
  · iapply (st_intro (ixv m) (wv m) (tv m) (ov m) d); iexact Hsc'
  iintro ⟨Hst, Hdn⟩
  ihave Ho := (dn_elim (ixv m) (wv m) (tv m) (ov m) d) $$ Hdn
  iapply (StableHlo.wp_seq (defs := (K (F := F)).defs (D (F := F))) 𝒱 none Set.univ d endRefs _ endOps endOps_sub
    (by intro _ h; (repeat (cases h with | head => rfl | tail _ h => ?_)); exact nomatch h) (V₃ m d)) $$ [Hb Ho Hkeep]
  · isplitl [Hb]; · iexact Hb
    rw [held_end]
    isplitl [Ho]; · iexact Ho
    iexact Hkeep
  iintro ⟨Hb, Hh⟩
  rw [wp_pure]
  imodintro
  isplitl [Hst]; · iexact Hst
  isplitl [Hh]; · iexact Hh
  isplitl [Hb] <;> iassumption

/-! ## The run -/

def fq (d : Dev nD) (s' : Phys nD τ sig (Elt F)) : Prop := ∀ b ∈ endRefs, s'.mem.mem (d, b) = V₄ m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (qs := fun _ => fullShare) endRefs)
  isplitl [HSI]; · iexact HSI
  iexact H

/-- What every final state satisfies. -/
def QC : PUnit × MemSt nD τ sig (Elt F) → Prop := fun r => (∀ c : Dev nD, ∀ b ∈ endRefs, r.2.mem (c, b) = V₄ m c b) ∧ r.2.sem = fun _ => 0

/-- The run: when the list of rows names rows of the table, every weakly fair execution ends without fault, all counters
    zero, the held buffers at the contents computed. -/
theorem run_main [∀ e, Nonempty (Elt F e)] (hm : Masks F) (hix : InRange (ixv m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ixv m) (wv m) (tv m) (ov m)) (A := ∅) facts v₀
    (fun q hq => match q with | 0 => nomatch hq)
    (fun q _ => match q with | 0 => tileObl (wv m) (tv m) (ov m) facts hix)
    (fun q _ => match q with | 0 => SparseCore.Cfg.VecSplit.of_plain (vecSplit (ixv m) (wv m) (tv m) (ov m)))
    m ρ main G (FIN m) (u₀ (F := F)) (sep_elim_left.trans (hu₀ m)) (hmain m ρ hm) (fq m) (hfin m) (QC m) (fun _ h hz => ⟨h, hz⟩)

end Cert.Proof

end
-- ==== Proof.Host.lean ====
/-
  What the final state's buffers hold, at an index: the result as the sum of three weighted rows of the target points,
  the weights and the rows' numbers being the columns the TensorCore pipeline ends with.
-/
module

public import proofs.«01_k».proof.Proof.Main
public import Idealize.ShloMosaic.Lib.KernelVsHost

@[expose] public section

noncomputable section

namespace Cert.Proof

open Cert.KernelIdeal Cert.KernelIdeal.Gen

open Idealize.ShloMosaic Idealize.ShloMosaic.TcCoe
open Idealize.ShloMosaic.Pipeline (Dat Cfg ucRefs afterRegion arrRef)
open Idealize.ShloMosaic.StableHlo

variable {F : FTy → Type} [FloatOps F]

variable (m : (ℓ : Loc nD τ sig) → Buf (Elt F) ℓ)

/-- The last point of the grid. -/
abbrev lastPt : Fin cfg0.N := ⟨97, by rw [show cfg0.N = 98 from N_0]; decide⟩

/-- The weights' array after the pipeline. -/
theorem arr2 (c : Dev nD) : (dat m c).arrAt 2 cfg0.N = (stAt m c 98).w := by
  refine (dat m c).arrAt_eq_of_cover 2 _ (fun t hf => ?_) (fun i => ⟨lastPt, (flush0_2 lastPt).mpr rfl, ?_⟩)
  · have ht : t.val + 1 = 98 := by have := (flush0_2 t).mp hf; have := lt_of_lt_of_eq t.isLt N_0; omega
    funext j
    show (stAt m c (t.val + 1)).w _ = (stAt m c 98).w _
    rw [ht]
    exact congrArg (stAt m c 98).w (funext fun a => Fin.ext (by
      fin_cases a
      · show (j 0).val = 0 * 1024 + 1 * (j 0).val; omega
      · show (j 1).val = 0 * 8 + 1 * (j 1).val; omega))
  · have h : i = ((cfg0.win 2).blk lastPt).view.emb i := funext fun a => Fin.ext (by
      fin_cases a
      · show (i 0).val = 0 * 1024 + 1 * (i 0).val; omega
      · show (i 1).val = 0 * 8 + 1 * (i 1).val; omega)
    rw [h]
    exact View.emb_mem_set _ _

/-- The target numbers' array after the pipeline. -/
theorem arr3 (c : Dev nD) : (dat m c).arrAt 3 cfg0.N = (stAt m c 98).ix := by
  refine (dat m c).arrAt_eq_of_cover 3 _ (fun t hf => ?_) (fun i => ⟨lastPt, (flush0_3 lastPt).mpr rfl, ?_⟩)
  · have ht : t.val + 1 = 98 := by have := (flush0_3 t).mp hf; have := lt_of_lt_of_eq t.isLt N_0; omega
    funext j
    show (stAt m c (t.val + 1)).ix _ = (stAt m c 98).ix _
    rw [ht]
    exact congrArg (stAt m c 98).ix (funext fun a => Fin.ext (by
      fin_cases a
      · show (j 0).val = 0 * 1024 + 1 * (j 0).val; omega
      · show (j 1).val = 0 * 8 + 1 * (j 1).val; omega))
  · have h : i = ((cfg0.win 3).blk lastPt).view.emb i := funext fun a => Fin.ext (by
      fin_cases a
      · show (i 0).val = 0 * 1024 + 1 * (i 0).val; omega
      · show (i 1).val = 0 * 8 + 1 * (i 1).val; omega)
    rw [h]
    exact View.emb_mem_set _ _

/-! ## After the pipeline -/

/-- The contents after the pipeline. -/
abbrev VR (c : Dev nD) : Valuation τ sig (Elt F) := afterRegion (dat m c) (V₁ m c)

theorem VR_w (c : Dev nD) : VR m c (Proc.devRef .tc main_v0_0) = (stAt m c 98).w :=
  (Pipeline.afterRegion_arr (dat m c) (V₁ m c) launch0.win.arr_inj 2).trans (arr2 m c)
theorem VR_ix (c : Dev nD) : VR m c (Proc.devRef .tc main_v0_1) = (stAt m c 98).ix :=
  (Pipeline.afterRegion_arr (dat m c) (V₁ m c) launch0.win.arr_inj 3).trans (arr3 m c)
theorem VR_arg0 (c : Dev nD) : VR m c (Proc.devRef .tc main_arg0) = m ((c : Thread nD τ).loc main_arg0) :=
  (Pipeline.afterRegion_arr (dat m c) (V₁ m c) launch0.win.arr_inj 0).trans ((dat m c).arrAt_in 0 rfl _)
theorem VR_arg1 (c : Dev nD) : VR m c (Proc.devRef .tc main_arg1) = m ((c : Thread nD τ).loc main_arg1) :=
  (Pipeline.afterRegion_arr (dat m c) (V₁ m c) launch0.win.arr_inj 1).trans ((dat m c).arrAt_in 1 rfl _)
theorem VR_arg2 (c : Dev nD) : VR m c (Proc.devRef .tc main_arg2) = m ((c : Thread nD τ).loc main_arg2) :=
  Pipeline.afterRegion_off (dat m c) (V₁ m c) _ _ (show (Proc.devRef .tc main_arg2 : DevRef τ sig) ∈ ucRefs τ sig \ Pipeline.arrRefs spec0 by decide)

/-! ## After the host operations -/

theorem ixv_eq (c : Dev nD) : ixv m c = shapeCast S3072 (extractStridedSlice S1024x3 ![0, 0] (stAt m c 98).ix slices_S1024x8_S1024x3_0_0) shapeCasts_S1024x3_S3072 := by
  rw [← VR_ix m c]
  show after midOps (VR m c) (Proc.devRef .tc main_v7) = _
  simp only [midOps, TRef.binary, TRef.unary, TRef.toBuf, TRef.ofBuf, cast_eq]
  after_results_simp <;> rfl

theorem wv_eq (c : Dev nD) : wv m c = broadcastInDim S3072x16 ![0, 1] bcast_S3072x1_S3072x16_0_1 (broadcastInDim S3072x1 ![0] bcast_S3072_S3072x1_0
    (shapeCast S3072 (extractStridedSlice S1024x3 ![0, 0] (stAt m c 98).w slices_S1024x8_S1024x3_0_0) shapeCasts_S1024x3_S3072)) := by
  rw [← VR_w m c]
  show after midOps (VR m c) (Proc.devRef .tc main_v6) = _
  simp only [midOps, TRef.binary, TRef.unary, TRef.toBuf, TRef.ofBuf, cast_eq]
  after_results_simp <;> rfl

theorem tv_eq (c : Dev nD) : tv m c = pad S100000x16 ![0, 0] ![0, 13] ![0, 0] (m ((c : Thread nD τ).loc main_arg2) : S100000x3.Idx → F .f32)
    (sitofp .f32 (constantI S_ 32 0#32)) pads_S100000x3_S100000x16_000_0130 h_S_ := by
  rw [← VR_arg2 m c]
  show after midOps (VR m c) (Proc.devRef .tc main_v3) = _
  simp only [midOps, TRef.binary, TRef.unary, TRef.toBuf, TRef.ofBuf, cast_eq]
  after_results_simp <;> rfl

/-- Entry `3 q + k` of a flattened three-column array. -/
theorem flat_nb {α : Type} (x : S1024x3.Idx → α) (q : Fin 1024) (k : Fin 3) :
    shapeCast S3072 x shapeCasts_S1024x3_S3072 (i1 (nb q k)) = x (i2 q k) := by
  unfold shapeCast
  refine congrArg x (Shape.reshapeEquiv_eq_of_rowMajor _ ?_)
  rw [Shape.rowMajor_val_one, Shape.rowMajor_val_two]
  show q.val * 3 + k.val = 3 * q.val + k.val
  omega

theorem slice_at {α : Type} (x : S1024x8.Idx → α) (q : Fin 1024) (k : Fin 3) :
    extractStridedSlice S1024x3 ![0, 0] x slices_S1024x8_S1024x3_0_0 (i2 q k) = x (i2 q (Fin.castLE (by decide) k)) := by
  unfold extractStridedSlice
  exact congrArg x (funext fun a => Fin.ext (by
    fin_cases a
    · show 0 + q.val = q.val; omega
    · show 0 + k.val = k.val; omega))

theorem slice16_at {α : Type} (x : S1024x16.Idx → α) (q : Fin 1024) (l : Fin 3) :
    extractStridedSlice S1024x3 ![0, 0] x slices_S1024x16_S1024x3_0_0 (i2 q l) = x (i2 q (Fin.castLE (by decide) l)) := by
  unfold extractStridedSlice
  exact congrArg x (funext fun a => Fin.ext (by
    fin_cases a
    · show 0 + q.val = q.val; omega
    · show 0 + l.val = l.val; omega))

theorem ixv_at (c : Dev nD) (q : Fin 1024) (k : Fin 3) : (ixv m c : S3072.Idx → BitVec 32) (i1 (nb q k)) = (stAt m c 98).ix (i2 q (Fin.castLE (by decide) k)) := by
  rw [ixv_eq]
  exact (flat_nb _ q k).trans (slice_at _ q k)

theorem wv_at (c : Dev nD) (q : Fin 1024) (k : Fin 3) (l : Fin 16) :
    (wv m c : S3072x16.Idx → F .f32) (i2 (nb q k) l) = (stAt m c 98).w (i2 q (Fin.castLE (by decide) k)) := by
  rw [wv_eq, ← slice_at (stAt m c 98).w q k, ← flat_nb (extractStridedSlice S1024x3 ![0, 0] (stAt m c 98).w slices_S1024x8_S1024x3_0_0) q k]
  unfold broadcastInDim
  exact congrArg _ (funext fun a => Fin.ext (by fin_cases a; rfl))

theorem tv_at (c : Dev nD) (n : Fin 100000) (l : Fin 3) :
    (tv m c : S100000x16.Idx → F .f32) (i2 n (Fin.castLE (by decide) l)) = (m ((c : Thread nD τ).loc main_arg2) : S100000x3.Idx → F .f32) (i2 n l) := by
  rw [tv_eq]
  refine pad_apply_of_inside _ _ _ _ _ _ _ _ (i2 n l) fun a => ?_
  fin_cases a
  · show n.val = 0 + n.val * (0 + 1); omega
  · show l.val = 0 + l.val * (0 + 1); omega

/-- Every entry of the flattened list is one of a query's three. -/
theorem exists_nb (r : Fin 3072) : ∃ q k, r = nb q k :=
  ⟨⟨r.val / 3, by omega⟩, ⟨r.val % 3, Nat.mod_lt _ (by decide)⟩, Fin.ext (by show r.val = 3 * (r.val / 3) + r.val % 3; omega)⟩

/-- The list names rows of the table as soon as the pipeline's three columns do. -/
theorem inRange_of (h : ∀ (c : Dev nD) (q : Fin 1024) (k : Fin 3), ((stAt m c 98).ix (i2 q (Fin.castLE (by decide) k))).toNat < 100000) :
    InRange (ixv m) := by
  intro d j
  obtain ⟨r, rfl⟩ : ∃ r : Fin 3072, j = i1 r := ⟨j 0, funext fun a => by fin_cases a; rfl⟩
  obtain ⟨q, k, rfl⟩ := exists_nb r
  have := ixv_at m d q k
  exact (congrArg BitVec.toNat this).trans_lt (h d q k)

/-! ## At the end -/

/-- One neighbour's contribution to lane `l` of query `q`. -/
def contrib (c : Dev nD) (q : Fin 1024) (k : Fin 3) (l : Fin 3) : F .f32 :=
  FloatOps.mulf ((stAt m c 98).w (i2 q (Fin.castLE (by decide) k)))
    ((m ((c : Thread nD τ).loc main_arg2) : S100000x3.Idx → F .f32) (i2 (Fin.ofNat 100000 ((stAt m c 98).ix (i2 q (Fin.castLE (by decide) k))).toNat) l))

theorem V₃_v8 (c : Dev nD) : V₃ m c (Proc.devRef .tc main_v8) = combine (ixv m c) (wv m c) (tv m c) := by
  unfold V₃; exact Function.update_self _ _ _

theorem V₄_out (c : Dev nD) (q : Fin 1024) (l : Fin 3) : (V₄ m c (Proc.devRef .tc main_v9) : S1024x3.Idx → F .f32) (i2 q l)
    = FloatOps.addf (FloatOps.addf (contrib m c q 0 l) (contrib m c q 1 l)) (contrib m c q 2 l) := by
  have h : V₄ m c (Proc.devRef .tc main_v9) = extractStridedSlice S1024x3 ![0, 0] (combine (ixv m c) (wv m c) (tv m c)) slices_S1024x16_S1024x3_0_0 := by
    rw [show combine (ixv m c) (wv m c) (tv m c) = V₃ m c (Proc.devRef .tc main_v8) from (V₃_v8 m c).symm]
    show after endOps (V₃ m c) (Proc.devRef .tc main_v9) = _
    after_results_simp <;> rfl
  have ht : ∀ k, term (ixv m c) (wv m c) (tv m c) (nb q k) (Fin.castLE (by decide) l) = contrib m c q k l := fun k => by
    unfold term rowNo contrib
    rw [wv_at, ixv_at, tv_at]
  rw [h, ← ht, ← ht, ← ht]
  rw [slice16_at]
  rfl

theorem V₃_of_ne (c : Dev nD) (b : DevRef τ sig) (h : b ≠ Proc.devRef .tc main_v8) : V₃ m c b = V₂ m c b := by
  unfold V₃; exact Function.update_of_ne h _ _

theorem V₄_arg0 (c : Dev nD) : V₄ m c (Proc.devRef .tc main_arg0) = m ((c : Thread nD τ).loc main_arg0) := by
  rw [← VR_arg0 m c]
  refine Eq.trans (b := V₃ m c (Proc.devRef .tc main_arg0)) ?_ ((V₃_of_ne m c _ (by decide)).trans ?_)
  · show after endOps (V₃ m c) (Proc.devRef .tc main_arg0) = _
    after_results_simp
  · show after midOps (VR m c) (Proc.devRef .tc main_arg0) = _
    simp only [midOps, TRef.binary, TRef.unary]
    after_results_simp

theorem V₄_arg1 (c : Dev nD) : V₄ m c (Proc.devRef .tc main_arg1) = m ((c : Thread nD τ).loc main_arg1) := by
  rw [← VR_arg1 m c]
  refine Eq.trans (b := V₃ m c (Proc.devRef .tc main_arg1)) ?_ ((V₃_of_ne m c _ (by decide)).trans ?_)
  · show after endOps (V₃ m c) (Proc.devRef .tc main_arg1) = _
    after_results_simp
  · show after midOps (VR m c) (Proc.devRef .tc main_arg1) = _
    simp only [midOps, TRef.binary, TRef.unary]
    after_results_simp

theorem V₄_arg2 (c : Dev nD) : V₄ m c (Proc.devRef .tc main_arg2) = m ((c : Thread nD τ).loc main_arg2) := by
  rw [← VR_arg2 m c]
  refine Eq.trans (b := V₃ m c (Proc.devRef .tc main_arg2)) ?_ ((V₃_of_ne m c _ (by decide)).trans ?_)
  · show after endOps (V₃ m c) (Proc.devRef .tc main_arg2) = _
    after_results_simp
  · show after midOps (VR m c) (Proc.devRef .tc main_arg2) = _
    simp only [midOps, TRef.binary, TRef.unary]
    after_results_simp

end Cert.Proof

end
-- ==== Proof.Last.lean ====
/-
  The pipeline's two result columns at a query, over the extended reals: the weights and the numbers of the three nearest.
-/
module

public import proofs.«01_k».proof.Proof.Inv
public import proofs.«01_k».proof.Proof.RefSoft
public import proofs.«01_k».proof.Proof.Host

@[expose] public section

noncomputable section

namespace Cert.Proof

open Cert.KernelIdeal Cert.KernelIdeal.Gen

open Idealize.ShloMosaic Idealize.ShloMosaic.TcCoe Idealize.ShloMosaic.ValueIdx

/-- Four pieces beside one another, at one of the first three columns. -/
theorem cols_at {α : Type} (x y z : S1024x1.Idx → α) (p : S1024x5.Idx → α) (h) (q : Fin 1024) (k : Fin 3) :
    concatenate S1024x8 1 [⟨S1024x1, x⟩, ⟨S1024x1, y⟩, ⟨S1024x1, z⟩, ⟨S1024x5, p⟩] h (i2 q (Fin.castLE (by decide) k))
      = ![x (i2 q 0), y (i2 q 0), z (i2 q 0)] k := by
  fin_cases k
  · exact congrArg x (funext fun a => by fin_cases a <;> rfl)
  · exact congrArg y (funext fun a => by fin_cases a <;> rfl)
  · exact congrArg z (funext fun a => by fin_cases a <;> rfl)

theorem one_bits : Ideal.ofBits .f32 0x3F800000#32 = 1 := Ideal.ofBits_one_f32

/-- The weights' column `k` at a query whose values are `a`. -/
theorem pay1_at (v0 v1 v2 : S1024x1.Idx → EReal) (q : Fin 1024) (a : Fin 3 → EReal) (h0 : v0 (i2 q 0) = a 0) (h1 : v1 (i2 q 0) = a 1) (h2 : v2 (i2 q 0) = a 2)
    (k : Fin 3) : k0_pay1 (F := Ideal) v0 v1 v2 (i2 q (Fin.castLE (by decide) k)) = weight a k := by
  unfold k0_pay1 weight expLess
  rw [← h0, ← h1, ← h2]
  refine (cols_at _ _ _ _ _ q k).trans ?_
  have e : ∀ z : EReal, Ideal.div z ((Ideal.ofBits .f32 0x3F800000#32 + Ideal.exp (v0 (i2 q 0) - v1 (i2 q 0))) + Ideal.exp (v0 (i2 q 0) - v2 (i2 q 0)))
      = Ideal.div z ((1 + Ideal.exp (v0 (i2 q 0) - v1 (i2 q 0))) + Ideal.exp (v0 (i2 q 0) - v2 (i2 q 0))) := fun z => by rw [one_bits]
  fin_cases k
  · exact (e _).trans (congrArg (fun z => Ideal.div z _) one_bits)
  · exact (e _).trans (congrArg (fun z => Ideal.div (Ideal.exp (v0 (i2 q 0) - z)) _) h1)
  · exact (e _).trans (congrArg (fun z => Ideal.div (Ideal.exp (v0 (i2 q 0) - z)) _) h2)

theorem pay2_at (j0 j1 j2 : S1024x1.Idx → BitVec 32) (q : Fin 1024) (k : Fin 3) :
    k0_pay2 j0 j1 j2 (i2 q (Fin.castLE (by decide) k)) = ![j0 (i2 q 0), j1 (i2 q 0), j2 (i2 q 0)] k :=
  cols_at j0 j1 j2 (broadcast S1024x5 0#32) concatenates_S1024x1_S1024x1_S1024x1_S1024x5_S1024x8_d1 q k

/-- The columns of running values and numbers that hold three numbers and their values. -/
theorem cols_of (s : St Ideal) (q : Fin 1024) (D : ℕ → EReal) (n : Fin 3 → ℕ) (h : (s.row q).Holds D (n 0) (n 1) (n 2)) (k : Fin 3) :
    s.w (i2 q (Fin.castLE (by decide) k)) = weight (fun k => D (n k)) k
    ∧ s.ix (i2 q (Fin.castLE (by decide) k)) = BitVec.ofNat 32 (n k) := by
  constructor
  · exact pay1_at _ _ _ q _ h.v0 h.v1 h.v2 k
  · refine (pay2_at _ _ _ q k).trans ?_
    fin_cases k
    · exact h.i0
    · exact h.i1
    · exact h.i2

variable (m : (ℓ : Loc nD τ sig) → Buf (Elt Ideal) ℓ) (c : Dev nD)

/-- The last columns at query `q`: the weights of the three least distances and their numbers. -/
theorem last_cols (hD : ∀ q n, DD m c q n < ⊤) (q : Fin 1024) {n : Fin 3 → ℕ}
    (hn : Top3 (DD m c q) (fun n => n < 100000) (n 0) (n 1) (n 2)) (k : Fin 3) :
    (stAt m c 98).w (i2 q (Fin.castLE (by decide) k)) = weight (fun k => DD m c q (n k)) k
    ∧ (stAt m c 98).ix (i2 q (Fin.castLE (by decide) k)) = BitVec.ofNat 32 (n k) := by
  obtain ⟨j0, j1, j2, hj, h⟩ := inv_last m c hD q
  obtain ⟨e0, e1, e2⟩ := hj.unique hn
  rw [e0, e1, e2] at h
  exact cols_of _ q _ n h k

end Cert.Proof
-- ==== Proof.Sort.lean ====
/-
  The stable sort that a top-k of negated values makes: its first three positions are the three least values' numbers,
  ties going to the lower number.
-/
module

public import proofs.«01_k».proof.Proof.Order
public import Idealize.ShloMosaic.Lib.SortFacts

@[expose] public section

noncomputable section

namespace Cert.Proof

open Idealize.ShloMosaic

variable (D : ℕ → EReal) (N : ℕ)

/-- Position `a`'s value is less than position `b`'s. -/
def lessAt (a b : Fin N) : Bool := @decide (D a.val < D b.val) (Classical.propDecidable _)

/-- Position `a` comes before position `b`, ties going to the lower position. -/
def beforeAt (a b : Fin N) : Bool := @decide (Before D a.val b.val) (Classical.propDecidable _)

variable {D N}

theorem lessAt_iff {a b : Fin N} : lessAt D N a b = true ↔ D a.val < D b.val := by
  unfold lessAt; exact @decide_eq_true_iff _ (Classical.propDecidable _)

theorem beforeAt_iff {a b : Fin N} : beforeAt D N a b = true ↔ Before D a.val b.val := by
  unfold beforeAt; exact @decide_eq_true_iff _ (Classical.propDecidable _)

theorem beforeAt_false {a b : Fin N} : beforeAt D N a b = false ↔ ¬Before D a.val b.val := by
  rw [← beforeAt_iff, Bool.not_eq_true]

/-- Sorting increasing positions by value alone is sorting them by value and position. -/
theorem stableSort_lessAt (l : List (Fin N)) (hl : l.Pairwise (· < ·)) :
    stableSort (lessAt D N) l = stableSort (beforeAt D N) l := by
  induction l with
  | nil => rfl
  | cons a l ih =>
    obtain ⟨ha, hl⟩ := List.pairwise_cons.mp hl
    unfold stableSort
    rw [ih hl]
    refine insertBefore_congr _ _ a _ fun b hb => ?_
    have hab : a < b := ha b ((perm_stableSort _ l).mem_iff.mp hb)
    rw [Bool.eq_iff_iff, lessAt_iff, beforeAt_iff]
    refine ⟨Or.inl, fun h => h.resolve_right fun g => ?_⟩
    have h1 : a.val < b.val := hab
    have h2 := g.2
    omega

theorem sortedFrom_lessAt : sortedFrom (lessAt D N) = sortedFrom (beforeAt D N) := by
  funext k
  unfold sortedFrom
  rw [List.get_of_eq (show sortPositions N (lessAt D N) = sortPositions N (beforeAt D N) from
    stableSort_lessAt _ (List.pairwise_lt_finRange N))]
  rfl

/-- An earlier sorted position's source comes before a later one's. -/
theorem sortedFrom_before {i j : Fin N} (h : i < j) :
    Before D (sortedFrom (lessAt D N) i).val (sortedFrom (lessAt D N) j).val := by
  rw [sortedFrom_lessAt]
  have hn : beforeAt D N (sortedFrom (beforeAt D N) j) (sortedFrom (beforeAt D N) i) = false :=
    sortedFrom_noInversion (beforeAt D N) (beforeAt D N)
      (fun a b hab => beforeAt_false.mpr (beforeAt_iff.mp hab).asymm) (fun _ _ h => h)
      (fun a b c hab hbc => beforeAt_false.mpr fun hac => by
        have h1 := beforeAt_false.mp hab
        have h2 := beforeAt_false.mp hbc
        rcases Before.total (D := D) a.val b.val with e | e | e
        · exact h2 (e ▸ hac)
        · exact h1 e
        · exact h2 (e.trans hac)) i j h
  rcases Before.total (D := D) (sortedFrom (beforeAt D N) i).val (sortedFrom (beforeAt D N) j).val with e | e | e
  · exact absurd (sortedFrom_injective _ (Fin.ext e)) h.ne
  · exact e
  · exact absurd e (beforeAt_false.mp hn)

/-- The first three sorted positions' sources are the three least. -/
theorem top3_sorted (i0 i1 i2 : Fin N) (h0 : i0.val = 0) (h1 : i1.val = 1) (h2 : i2.val = 2) :
    Top3 D (fun n => n < N) (sortedFrom (lessAt D N) i0).val (sortedFrom (lessAt D N) i1).val (sortedFrom (lessAt D N) i2).val where
  m0 := (sortedFrom (lessAt D N) i0).isLt
  m1 := (sortedFrom (lessAt D N) i1).isLt
  m2 := (sortedFrom (lessAt D N) i2).isLt
  h01 := sortedFrom_before (by rw [Fin.lt_def]; omega)
  h12 := sortedFrom_before (by rw [Fin.lt_def]; omega)
  rest n hn := by
    obtain ⟨k, hk⟩ := sortedFrom_surjective (lessAt D N) ⟨n, hn⟩
    have hk' : (sortedFrom (lessAt D N) k).val = n := congrArg Fin.val hk
    rcases Nat.lt_or_ge 2 k.val with h | h
    · exact Or.inr (Or.inr (Or.inr (hk' ▸ sortedFrom_before (by rw [Fin.lt_def]; omega))))
    · rcases (show k.val = 0 ∨ k.val = 1 ∨ k.val = 2 by omega) with e | e | e
      · exact Or.inl (hk'.symm.trans (congrArg (fun z => (sortedFrom (lessAt D N) z).val) (Fin.ext (e.trans h0.symm) : k = i0)))
      · exact Or.inr (Or.inl (hk'.symm.trans (congrArg (fun z => (sortedFrom (lessAt D N) z).val) (Fin.ext (e.trans h1.symm) : k = i1))))
      · exact Or.inr (Or.inr (Or.inl (hk'.symm.trans (congrArg (fun z => (sortedFrom (lessAt D N) z).val) (Fin.ext (e.trans h2.symm) : k = i2)))))

end Cert.Proof
-- ==== Proof.RefTop.lean ====
/-
  The reference's top three of a row of negated distances: the three least distances' numbers, in order.
-/
module

public import proofs.«01_k».proof.Proof.RefDef
public import proofs.«01_k».proof.Proof.Sort
public import proofs.«01_k».proof.Proof.Dist

@[expose] public section

noncomputable section

namespace Cert.Proof

open Cert.ReferenceIdeal

open Idealize.ShloMosaic Idealize.ShloMosaic.TcCoe Idealize.ShloMosaic.ValueIdx

section sort
variable {A B : ℕ}

theorem along_row (j : (⟨2, ![A, B]⟩ : Shape).Idx) (k : Fin B) (hd : 1 < (⟨2, ![A, B]⟩ : Shape).rank) :
    Shape.Idx.along (s := ⟨2, ![A, B]⟩) j ⟨1, hd⟩ k = i2 (j 0) k := by
  funext a
  fin_cases a
  · exact Function.update_of_ne (fun h => absurd (congrArg Fin.val h) Nat.zero_ne_one) _ _
  · exact Function.update_self _ _ _

theorem gt_lessAt (x : (⟨2, ![A, B]⟩ : Shape).Idx → EReal) (D : ℕ → EReal) (q : Fin A) (hx : ∀ n : Fin B, x (i2 q n) = -D n.val) :
    (fun k k' : Fin B => FloatOps.cmpfTotal (F := Ideal) (φ := .f32) .gt (x (i2 q k)) (x (i2 q k')) == 1#1) = lessAt D B := by
  funext k k'
  rw [Bool.eq_iff_iff, lessAt_iff, hx, hx]
  show (BitVec.ofBool (decide (-D k'.val < -D k.val)) == 1#1) = true ↔ _
  rw [← EReal.neg_lt_neg_iff (a := D k'.val)]
  by_cases h : -D k'.val < -D k.val <;> simp [h]

/-- A sort of pairs by the greater first member, at row `q` of negated values. -/
theorem sort_at {β : Type} (x : (⟨2, ![A, B]⟩ : Shape).Idx → EReal) (y : (⟨2, ![A, B]⟩ : Shape).Idx → β) (D : ℕ → EReal) (q : Fin A)
    (hx : ∀ n : Fin B, x (i2 q n) = -D n.val) (k : Fin B) :
    (Host.sort2 ⟨2, ![A, B]⟩ 1 (fun l r => FloatOps.cmpfTotal (F := Ideal) (φ := .f32) .gt l.1 r.1) x y).1 (i2 q k) = x (i2 q (sortedFrom (lessAt D B) k))
    ∧ (Host.sort2 ⟨2, ![A, B]⟩ 1 (fun l r => FloatOps.cmpfTotal (F := Ideal) (φ := .f32) .gt l.1 r.1) x y).2 (i2 q k) = y (i2 q (sortedFrom (lessAt D B) k)) := by
  rw [← gt_lessAt x D q hx]
  unfold Host.sort2
  have hd : 1 < (⟨2, ![A, B]⟩ : Shape).rank := Nat.one_lt_two
  rw [dif_pos hd]
  have e : ∀ n : Fin B, Shape.Idx.along (s := ⟨2, ![A, B]⟩) (i2 q k) ⟨1, hd⟩ n = i2 q n := fun n => along_row (i2 q k) n hd
  have e' : (fun a b : Fin B => FloatOps.cmpfTotal (F := Ideal) (φ := .f32) .gt (x (Shape.Idx.along (s := ⟨2, ![A, B]⟩) (i2 q k) ⟨1, hd⟩ a)) (x (Shape.Idx.along (s := ⟨2, ![A, B]⟩) (i2 q k) ⟨1, hd⟩ b)) == 1#1)
      = fun a b : Fin B => FloatOps.cmpfTotal (F := Ideal) (φ := .f32) .gt (x (i2 q a)) (x (i2 q b)) == 1#1 := by
    funext a b
    rw [e, e]
  exact ⟨(congrArg x (e _)).trans (congrArg (fun f : Fin B → Fin B → Bool => x (i2 q (sortedFrom f k))) e'),
    (congrArg y (e _)).trans (congrArg (fun f : Fin B → Fin B → Bool => y (i2 q (sortedFrom f k))) e')⟩

theorem slice_row {α : Type} {C : ℕ} (x : (⟨2, ![A, B]⟩ : Shape).Idx → α) (h : (⟨2, ![A, B]⟩ : Shape).Slices (fun _ => 0) ⟨2, ![A, C]⟩) (q : Fin A) (k : Fin C) (hk : C ≤ B) :
    extractStridedSlice ⟨2, ![A, C]⟩ (fun _ => 0) x h (i2 q k) = x (i2 q (Fin.castLE hk k)) := by
  unfold extractStridedSlice
  exact congrArg x (funext fun a => Fin.ext (by
    fin_cases a
    · show 0 + q.val = q.val; omega
    · show 0 + k.val = k.val; omega))

/-- The greatest `C` of a row of negated values, and their numbers, by the sorted positions. -/
theorem topK_at {C : ℕ} (x : (⟨2, ![A, B]⟩ : Shape).Idx → EReal) (D : ℕ → EReal) (q : Fin A) (h : (⟨2, ![A, B]⟩ : Shape).Slices (fun _ => 0) ⟨2, ![A, C]⟩)
    (hx : ∀ n : Fin B, x (i2 q n) = -D n.val) (k : Fin C) (hk : C ≤ B) :
    (Host.topK ⟨2, ![A, C]⟩ 1 (FloatOps.cmpfTotal (F := Ideal) (φ := .f32) .gt) x h).1 (i2 q k) = -D (sortedFrom (lessAt D B) (Fin.castLE hk k)).val
    ∧ (Host.topK ⟨2, ![A, C]⟩ 1 (FloatOps.cmpfTotal (F := Ideal) (φ := .f32) .gt) x h).2 (i2 q k) = BitVec.ofNat 32 (sortedFrom (lessAt D B) (Fin.castLE hk k)).val := by
  unfold Host.topK
  dsimp only
  refine ⟨(slice_row _ _ q k hk).trans ((sort_at x _ D q hx _).1.trans (hx _)), (slice_row _ _ q k hk).trans ((sort_at x _ D q hx _).2.trans ?_)⟩
  rw [dif_pos (show 1 < (⟨2, ![A, B]⟩ : Shape).rank from Nat.one_lt_two)]
  rfl

end sort

/-- The sorted source of position `k`. -/
def topPos (D : ℕ → EReal) (k : Fin 3) : Fin 100000 := sortedFrom (lessAt D 100000) (Fin.castLE (by decide) k)

/-- The values and the numbers of the reference's top three. -/
theorem refTop_at (x : S1024x100000.Idx → EReal) (D : ℕ → EReal) (q : Fin 1024)
    (hx : ∀ n : Fin 100000, x (i2 q n) = -D n.val) (k : Fin 3) :
    (refTop (F := Ideal) x).1 (i2 q k) = -D (topPos D k).val ∧ (refTop (F := Ideal) x).2 (i2 q k) = BitVec.ofNat 32 (topPos D k).val :=
  topK_at x D q _ hx k (by decide)

theorem topPos_top3 (D : ℕ → EReal) : Top3 D (fun n => n < 100000) (topPos D 0).val (topPos D 1).val (topPos D 2).val :=
  top3_sorted _ _ _ rfl rfl rfl

/-! ## The negated distances -/

theorem dot_at (a0 : S1024x32.Idx → EReal) (a1 : S100000x32.Idx → EReal) (q : Fin 1024) (n : Fin 100000) :
    Host.dotGeneral (F := Ideal) (φ₁ := .f32) (φ₂ := .f32) dot_S1024x32_S32x100000_S1024x100000_1_0_0_1_n_n none a0 (transpose S32x100000 [1, 0] a1 Facts₀.transposes_S100000x32_S32x100000_1_0) (i2 q n)
      = ∑ k : Fin 32, a0 (i2 q k) * a1 (i2 n k) := by
  simp only [Host.dotGeneral]
  rw [Ideal.dotGeneral_apply]
  rw [← Equiv.sum_comp (contrEquiv1 dot_S1024x32_S32x100000_S1024x100000_1_0_0_1_n_n 32 rfl rfl).symm]
  refine Finset.sum_congr rfl fun k _ => ?_
  refine congrArg₂ (fun a b : EReal => a * b) (congrArg a0 (funext fun c => ?_)) (transpose_apply _ _ _ _ _ fun b => ?_)
  · fin_cases c <;> rfl
  · fin_cases b <;> rfl

theorem sqsum_at {B : ℕ} (x : (⟨2, ![B, 32]⟩ : Shape).Idx → EReal) (h' : Shape.Reduces ⟨2, ![B, 32]⟩ [1] ⟨1, ![B]⟩)
    (h : Shape.ReducesTo ⟨2, ![B, 32]⟩ [1] ⟨1, ![B]⟩) (hu : 0 < S_.numel) (n : Fin B) :
    Host.reduceAdd (F := Ideal) (φ := .f32) (mulf (F := Ideal) (φ := .f32) x x) (constant (F := Ideal) S_ .f32 0x00000000#32) h hu (i1 n)
      = ∑ k : Fin 32, x (i2 n k) * x (i2 n k) := by
  rw [hostReduceAdd_apply, Ideal.hostReduceAdd_single h h']
  refine (congrArg (fun z : EReal => z + _) Ideal.ofBits_zero_f32).trans ((zero_add _).trans ?_)
  refine Finset.sum_congr rfl fun k _ => ?_
  refine congrArg (fun j => x j * x j) (funext fun c => ?_)
  fin_cases c <;> rfl

theorem rowOf_at (x : S1024.Idx → EReal) (q : Fin 1024) (n : Fin 100000) :
    broadcastInDim S1024x100000 ![0, 1] Facts₀.bcast_S1024x1_S1024x100000_0_1 (broadcastInDim S1024x1 ![0] Facts₀.bcast_S1024_S1024x1_0 x) (i2 q n) = x (i1 q) := by
  refine (broadcastInDim_apply _ _ _ _ (i2 q 0) fun a => ?_).trans (broadcastInDim_apply _ _ _ _ (i1 q) fun a => ?_)
  · fin_cases a <;> rfl
  · fin_cases a; rfl

theorem colOf_at (x : S100000.Idx → EReal) (q : Fin 1024) (n : Fin 100000) :
    broadcastInDim S1024x100000 ![0, 1] Facts₀.bcast_S1x100000_S1024x100000_0_1 (shapeCast S1x100000 (broadcastInDim S100000x1 ![0] Facts₀.bcast_S100000_S100000x1_0 x) Facts₀.shapeCasts_S100000x1_S1x100000) (i2 q n) = x (i1 n) := by
  refine (broadcastInDim_apply _ _ _ _ (i2 0 n) fun a => ?_).trans ((shapeCast_apply _ _ _ (i2 n 0) ?_).trans (broadcastInDim_apply _ _ _ _ (i1 n) fun a => ?_))
  · fin_cases a <;> rfl
  · rw [Shape.rowMajor_val_two, Shape.rowMajor_val_two]
    show n.val * 1 + 0 = 0 * 100000 + n.val
    omega
  · fin_cases a; rfl

theorem reduces_q : S1024x32.Reduces [1] S1024 := by decide
theorem reduces_t : S100000x32.Reduces [1] S100000 := by decide

/-- The reference's negated distances are the kernel's distances, negated. -/
theorem refNeg_at (a0 : S1024x32.Idx → EReal) (a1 : S100000x32.Idx → EReal) (q : Fin 1024) (n : Fin 100000) :
    refNeg (F := Ideal) a0 a1 (i2 q n) = -dist a0 a1 q n.val := by
  unfold refNeg
  refine congrArg (fun z : EReal => -z) ?_
  have hn : Fin.ofNat 100000 n.val = n := Fin.ext (Nat.mod_eq_of_lt n.isLt)
  refine Eq.trans (congrArg₂ (fun a b : EReal => a + b) (congrArg₂ (fun a b : EReal => a - b)
    ((rowOf_at _ q n).trans (sqsum_at a0 reduces_q _ _ q)) (congrArg (fun z : EReal => two * z) (dot_at a0 a1 q n)))
    ((colOf_at _ q n).trans (sqsum_at a1 reduces_t _ _ n))) ?_
  unfold dist rowDist
  rw [hn]

end Cert.Proof
-- ==== Proof.RefTake.lean ====
/-
  The reference's selected points and their weighted sum over the extended reals, where every number names a target.
-/
module

public import proofs.«01_k».proof.Proof.RefDef
public import proofs.«01_k».proof.Proof.Dist
public import proofs.«01_k».proof.Proof.Host
public import Idealize.ShloMosaic.Lib.Routing.Ops
public import Idealize.ShloMosaic.Lib.ReduceAll

@[expose] public section

noncomputable section

namespace Cert.Proof

open Cert.ReferenceIdeal

open Idealize.ShloMosaic Idealize.ShloMosaic.TcCoe Idealize.ShloMosaic.ValueIdx

/-- The column of numbers, where they all name targets. -/
theorem refCol_at (ix : S1024x3.Idx → BitVec 32) (q : Fin 1024) (k : Fin 3) (n : ℕ) (hn : n < 100000)
    (h : ix (i2 q k) = BitVec.ofNat 32 n) : refCol ix (i2 (nb q k) 0) = BitVec.ofNat 32 n := by
  unfold refCol
  refine (broadcastInDim_apply _ _ _ _ (i1 (nb q k)) fun a => ?_).trans ?_
  · fin_cases a; rfl
  have e : shapeCast S3072 ix Facts₀.shapeCasts_S1024x3_S3072 (i1 (nb q k)) = BitVec.ofNat 32 n := (flat_nb ix q k).trans h
  rw [select_slt, if_neg, e]
  rw [e, toInt_ofNat_small (by omega)]
  show ¬((n : ℤ) < 0)
  omega

theorem refIn_at (col : S3072x1.Idx → BitVec 32) (h : ∀ r : Fin 3072, ∃ n, n < 100000 ∧ col (i2 r 0) = BitVec.ofNat 32 n) (j : S3072.Idx) :
    refIn col j = 1#1 := by
  unfold refIn
  refine Host.reduce_andi_one _ _ _ _ j rfl fun i => ?_
  obtain ⟨r, rfl⟩ : ∃ r : Fin 3072, i = i2 r 0 := ⟨i 0, funext fun a => by
    fin_cases a
    · rfl
    · exact Subsingleton.elim (α := Fin 1) _ _⟩
  obtain ⟨n, hn, e⟩ := h r
  show IntOp.andi (IntOp.cmpi .sge (col (i2 r 0)) 0#32) (IntOp.cmpi .sle (col (i2 r 0)) 99999#32) = 1#1
  rw [e]
  have hi := toInt_ofNat_small (show n < 2 ^ 31 by omega)
  show BitVec.ofBool ((0#32).sle (BitVec.ofNat 32 n)) &&& BitVec.ofBool ((BitVec.ofNat 32 n).sle 99999#32) = 1#1
  have h1 : (0#32).sle (BitVec.ofNat 32 n) = true := by
    rw [BitVec.sle_iff_toInt_le, hi]; exact Int.natCast_nonneg n
  have h2 : (BitVec.ofNat 32 n).sle 99999#32 = true := by
    rw [BitVec.sle_iff_toInt_le, hi]
    show (n : ℤ) ≤ 99999
    omega
  rw [h1, h2]; rfl

/-- The selected points: row `n` of the table at the place that names `n`. -/
theorem refSel_at (a2 : S100000x3.Idx → EReal) (ix : S1024x3.Idx → BitVec 32) (hix : ∀ q k, ∃ n, n < 100000 ∧ ix (i2 q k) = BitVec.ofNat 32 n)
    (q : Fin 1024) (k l : Fin 3) (n : Fin 100000) (h : ix (i2 q k) = BitVec.ofNat 32 n.val) :
    refSel (F := Ideal) a2 (refCol ix) (ix3 q k l) = a2 (i2 n l) := by
  unfold refSel
  refine (shapeCast_apply _ _ _ (i2 (nb q k) l) ?_).trans ?_
  · rw [Shape.rowMajor_val_three, Shape.rowMajor_val_two]
    show (3 * q.val + k.val) * 3 + l.val = (q.val * 3 + k.val) * 3 + l.val
    omega
  have hc : ∀ r : Fin 3072, ∃ n, n < 100000 ∧ refCol ix (i2 r 0) = BitVec.ofNat 32 n := fun r => by
    obtain ⟨q, k, rfl⟩ := exists_nb r
    obtain ⟨n, hn, e⟩ := hix q k
    exact ⟨n, hn, refCol_at ix q k n hn e⟩
  have hb : broadcastInDim S3072x3 ![0] Facts₀.bcast_S3072_S3072x3_0 (refIn (refCol ix)) (i2 (nb q k) l) = 1#1 :=
    (broadcastInDim_apply _ _ _ _ (i1 (nb q k)) fun a => by fin_cases a; rfl).trans (refIn_at _ hc _)
  refine Eq.trans (congrArg (fun z : BitVec 1 => Scalar.select z _ _) hb) ?_
  show Host.gather _ a2 (refCol ix) (i2 (nb q k) l) = _
  rw [ix2_eq (nb q k) l]
  refine (Routing.gather_row (nb := 100000) (B := 3) (n := 3072) gather_S100000x3_S3072x1_S3072x3_1_0_n_n_0_1_13 rfl rfl rfl rfl rfl a2 _ (nb q k) l n ?_ (by decide)).trans (congrArg a2 (ix2_eq _ _).symm)
  rw [← ix2_eq]
  exact refCol_at ix q k n.val n.isLt h

theorem reduces_points : S1024x3x3.Reduces [1] S1024x3 := by decide

/-- The weighted sum at query `q`, coordinate `l`. -/
theorem refSum_at (sel : S1024x3x3.Idx → EReal) (w : S1024x3.Idx → EReal) (q : Fin 1024) (l : Fin 3) :
    refSum (F := Ideal) sel w (i2 q l) = ∑ k : Fin 3, sel (ix3 q k l) * w (i2 q k) := by
  unfold refSum
  rw [hostReduceAdd_apply, Ideal.hostReduceAdd_single _ reduces_points]
  refine (congrArg (fun z : EReal => z + _) Ideal.ofBits_zero_f32).trans ((zero_add _).trans ?_)
  refine Finset.sum_congr rfl fun k _ => ?_
  have e : Shape.Reduces.lift (s := S1024x3x3) (a := 1) (t := S1024x3) reduces_points (i2 q l) k = ix3 q k l := by
    funext c; fin_cases c <;> rfl
  refine (congrArg (mulf (F := Ideal) (φ := .f32) sel _) e).trans ?_
  refine congrArg (fun z : EReal => sel (ix3 q k l) * z) ?_
  refine (broadcastInDim_apply _ _ _ _ (ix3 q k (0 : Fin 1)) fun a => ?_).trans (broadcastInDim_apply _ _ _ _ (i2 q k) fun a => ?_)
  · fin_cases a <;> rfl
  · fin_cases a <;> rfl

end Cert.Proof
-- ==== Proof.Finite.lean ====
/-
  The precondition: finite features. So every distance is a real number.
-/
module

public import proofs.«01_k».proof.Proof.Gen.Pre_finite
public import proofs.«01_k».proof.Proof.Dist
public import Idealize.ShloMosaic.Lib.ReduceAll

@[expose] public section

noncomputable section

namespace Cert.Proof

open Idealize.ShloMosaic Idealize.ShloMosaic.TcCoe Idealize.ShloMosaic.ValueIdx

/-- What the precondition says of an array's entry. -/
theorem real_of_abs_lt {x : EReal} (h : max x (-x) < ⊤) : ∃ r : ℝ, x = (r : EReal) := by
  induction x with
  | bot => simp at h
  | top => simp at h
  | coe r => exact ⟨r, rfl⟩

theorem olt_one {a b : EReal} (h : FloatOps.cmpf (F := Ideal) (φ := .f32) .olt a b = 1#1) : a < b := by
  by_contra hn
  have : (BitVec.ofBool (decide (a < b))) = 1#1 := h
  rw [decide_eq_false hn] at this
  exact absurd this (by decide)

instance : Subsingleton Cert.Pre_finite.S_.Idx := ⟨fun a b => funext fun k => k.elim0⟩

/-- Both feature arrays hold real numbers. -/
theorem reals_of_pre (a0 : FVec Ideal Cert.Pre_finite.S1024x32 .f32) (a1 : FVec Ideal Cert.Pre_finite.S100000x32 .f32)
    (a2 : FVec Ideal Cert.Pre_finite.S100000x3 .f32) (j : Cert.Pre_finite.S_.Idx) (h : Cert.Pre_finite.fn (F := Ideal) a0 a1 a2 j = 1#1) :
    (∀ i, ∃ r : ℝ, a0 i = (r : EReal)) ∧ ∀ i, ∃ r : ℝ, a1 i = (r : EReal) := by
  dsimp only [Cert.Pre_finite.fn] at h
  obtain ⟨h0, h1⟩ := IntOp.andi_eq_one.1 h
  refine ⟨fun i => real_of_abs_lt ?_, fun i => real_of_abs_lt ?_⟩
  · have := olt_one (Host.reduce_andi_all _ _ _ _ j h0 i)
    rw [← ofBits_inf]; exact this
  · have := olt_one (Host.reduce_andi_all _ _ _ _ j h1 i)
    rw [← ofBits_inf]; exact this

theorem sum_real {ι : Type} (s : Finset ι) (f : ι → EReal) (h : ∀ k, ∃ r : ℝ, f k = (r : EReal)) : ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := ih
    obtain ⟨t, ht⟩ := h a
    exact ⟨t + r, by rw [Finset.sum_insert ha, hr, ht, EReal.coe_add]⟩

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem two_real : ∃ r : ℝ, two = (r : EReal) := by
  unfold two
  simp [Ideal.ofBits, Ideal.ieee]
  exact ⟨8388608 * (2 ^ 22)⁻¹, (EReal.coe_mul _ _).symm⟩

/-- A distance of real features is a real number. -/
theorem dist_real (sf : Cert.KernelIdeal.S1024x32.Idx → EReal) (tf : Cert.KernelIdeal.S100000x32.Idx → EReal)
    (hs : ∀ i, ∃ r : ℝ, sf i = (r : EReal)) (ht : ∀ i, ∃ r : ℝ, tf i = (r : EReal)) (q : Fin 1024) (n : ℕ) :
    ∃ r : ℝ, dist sf tf q n = (r : EReal) := by
  unfold dist rowDist
  obtain ⟨a, ha⟩ := sum_real Finset.univ (fun k : Fin 32 => sf (i2 q k) * sf (i2 q k)) fun k => mul_real (hs _) (hs _)
  obtain ⟨b, hb⟩ := sum_real Finset.univ (fun k : Fin 32 => sf (i2 q k) * tf (i2 (Fin.ofNat 100000 n) k)) fun k => mul_real (hs _) (ht _)
  obtain ⟨d, hd⟩ := sum_real Finset.univ (fun k : Fin 32 => tf (i2 (Fin.ofNat 100000 n) k) * tf (i2 (Fin.ofNat 100000 n) k)) fun k => mul_real (ht _) (ht _)
  obtain ⟨e, he⟩ := mul_real two_real ⟨b, hb⟩
  exact ⟨a - e + d, by rw [ha, he, hd, EReal.coe_add, EReal.coe_sub]⟩

end Cert.Proof
-- ==== Proof.Agree.lean ====
/-
  The kernel's result is the reference's, over the extended reals, where the features are finite.
-/
module

public import proofs.«01_k».proof.Proof.Last
public import proofs.«01_k».proof.Proof.RefTop
public import proofs.«01_k».proof.Proof.RefTake
public import proofs.«01_k».proof.Proof.Finite

@[expose] public section

noncomputable section

namespace Cert.Proof

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

/-- The features are real numbers. -/
def Reals : Prop := (∀ i, ∃ r : ℝ, sfA m c i = (r : EReal)) ∧ ∀ i, ∃ r : ℝ, tfA m c i = (r : EReal)

variable {m c}

theorem Reals.dd (h : Reals m c) (q : Fin 1024) (n : ℕ) : ∃ r : ℝ, DD m c q n = (r : EReal) := dist_real _ _ h.1 h.2 q n

theorem Reals.lt_top (h : Reals m c) (q : Fin 1024) (n : ℕ) : DD m c q n < ⊤ := by
  obtain ⟨r, hr⟩ := h.dd q n
  rw [hr]; exact EReal.coe_lt_top r

/-- The kernel's columns at query `q`, by the reference's sorted positions. -/
theorem Reals.cols (h : Reals m c) (q : Fin 1024) (k : Fin 3) :
    (stAt m c 98).w (i2 q (Fin.castLE (by decide) k)) = weight (fun k => DD m c q (topPos (DD m c q) k).val) k
    ∧ (stAt m c 98).ix (i2 q (Fin.castLE (by decide) k)) = BitVec.ofNat 32 (topPos (DD m c q) k).val :=
  last_cols m c h.lt_top q (n := fun k => (topPos (DD m c q) k).val) (topPos_top3 _) k

theorem toNat_row (n : Fin 100000) : (BitVec.ofNat 32 n.val).toNat = n.val := by
  have := n.isLt
  rw [BitVec.toNat_ofNat, Nat.mod_eq_of_lt (by omega)]

/-- Every number of the list names a row of the table. -/
theorem Reals.row_lt (h : Reals m c) (q : Fin 1024) (k : Fin 3) :
    ((stAt m c 98).ix (i2 q (Fin.castLE (by decide) k))).toNat < 100000 := by
  rw [(h.cols q k).2, toNat_row]; exact Fin.isLt _

/-- The points. -/
abbrev ptsA (m : (ℓ : Loc nD τ sig) → Buf (Elt Ideal) ℓ) (c : Dev nD) : S100000x3.Idx → EReal := m ((c : Thread nD τ).loc main_arg2)

theorem Reals.contrib (h : Reals m c) (q : Fin 1024) (k l : Fin 3) :
    Cert.Proof.contrib m c q k l = weight (fun k => DD m c q (topPos (DD m c q) k).val) k * ptsA m c (i2 (topPos (DD m c q) k) l) := by
  unfold Cert.Proof.contrib
  rw [(h.cols q k).1, (h.cols q k).2, toNat_row]
  have e : Fin.ofNat 100000 (topPos (DD m c q) k).val = topPos (DD m c q) k := Fin.ext (Nat.mod_eq_of_lt (Fin.isLt _))
  rw [e]; rfl

/-- The reference's function of real features, at query `q` and coordinate `l`. -/
theorem refOut_at (a0 : S1024x32.Idx → EReal) (a1 : S100000x32.Idx → EReal) (a2 : S100000x3.Idx → EReal)
    (hr : ∀ q n, ∃ r : ℝ, dist a0 a1 q n = (r : EReal)) (q : Fin 1024) (l : Fin 3) :
    refOut (F := Ideal) a0 a1 a2 (i2 q l)
      = ∑ k : Fin 3, a2 (i2 (topPos (dist a0 a1 q) k) l) * weight (fun k => dist a0 a1 q (topPos (dist a0 a1 q) k).val) k := by
  unfold refOut
  rw [refSum_at]
  have ht := fun q => refTop_at (refNeg (F := Ideal) a0 a1) (dist a0 a1 q) q (refNeg_at a0 a1 q)
  refine Finset.sum_congr rfl fun k _ => congrArg₂ (fun a b : EReal => a * b) ?_ ?_
  · exact refSel_at a2 _ (fun q k => ⟨_, Fin.isLt _, (ht q k).2⟩) q k l _ (ht q k).2
  · choose r hr using hr q
    have hw := refWts_at (refTop (F := Ideal) (refNeg (F := Ideal) a0 a1)).1 q (fun k => r (topPos (dist a0 a1 q) k).val)
      (fun k => by rw [(ht q k).1, hr]) (fun k => ?_) k
    · rw [hw]
      exact congrArg (fun f => weight f k) (funext fun k => (hr _).symm)
    · have hle : dist a0 a1 q (topPos (dist a0 a1 q) 0).val ≤ dist a0 a1 q (topPos (dist a0 a1 q) k).val := by
        have h3 := topPos_top3 (dist a0 a1 q)
        have le : ∀ {a b}, Before (dist a0 a1 q) a b → dist a0 a1 q a ≤ dist a0 a1 q b := by
          rintro a b (h | h)
          · exact h.le
          · exact h.1.le
        fin_cases k
        · exact le_rfl
        · exact le h3.h01
        · exact le (h3.h01.trans h3.h12)
      rw [hr, hr] at hle
      exact EReal.coe_le_coe_iff.mp hle

/-- The kernel's result buffer at the end holds the reference's function of the arguments. -/
theorem Reals.out (h : Reals m c) :
    (V₄ m c (Proc.devRef .tc main_v9) : S1024x3.Idx → EReal) = refOut (F := Ideal) (sfA m c) (tfA m c) (ptsA m c) := by
  funext j
  obtain ⟨q, l, rfl⟩ : ∃ (q : Fin 1024) (l : Fin 3), j = i2 q l := ⟨j 0, j 1, (eq_ix2 j).trans (ix2_eq _ _).symm⟩
  refine (V₄_out m c q l).trans ?_
  rw [h.contrib, h.contrib, h.contrib]
  refine Eq.symm ((refOut_at (sfA m c) (tfA m c) (ptsA m c) h.dd q l).trans ((Fin.sum_univ_three _).trans ?_))
  refine congrArg₂ (fun a b : EReal => a + b) (congrArg₂ (fun a b : EReal => a + b) ?_ ?_) ?_ <;> exact mul_comm _ _

end Cert.Proof
-- ==== Proof.lean ====
/-
  The certificate: both programs run and end quiescent, and over the extended reals the kernel's result is the reference's.
-/
module
public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_finite
public import proofs.«01_k».proof.Proof.Gen.ReferenceIdeal
public import proofs.«01_k».proof.Proof.Gen.ReferenceIdeal.Run
public import proofs.«01_k».proof.Proof.Agree
public import Idealize.ShloMosaic.Lib.Quiescent

@[expose] public section

noncomputable section

namespace Cert.Proof

open Idealize.ShloMosaic Idealize.ShloMosaic.TcCoe

/-- The precondition makes the features real numbers on every device. -/
theorem reals (m : (ℓ : Loc Cert.KernelIdeal.nD Cert.KernelIdeal.τ Cert.KernelIdeal.sig) → Buf (Elt Ideal) ℓ)
    (h : Cert.Pre_KernelIdeal (hPre_finite := Cert.Pre_finite.Gen.facts) m) (c : Dev Cert.KernelIdeal.nD) : Reals m c :=
  reals_of_pre _ _ _ (fun a => a.elim0) (congrFun (h c) _)

/-- The kernel's run from memories of real features. -/
theorem kernel_run (m : (ℓ : Loc Cert.KernelIdeal.nD Cert.KernelIdeal.τ Cert.KernelIdeal.sig) → Buf (Elt Ideal) ℓ)
    (ρ : Dev Cert.KernelIdeal.nD → PrngReg) (h : ∀ c, Reals m c) :
    θ_run (Cert.KernelIdeal.defs (F := Ideal)) (Cert.KernelIdeal.threads (F := Ideal)) ⟨m, fun _ => 0, ρ⟩ (QC m) :=
  run_main m ρ masks (inRange_of m fun c q k => (h c).row_lt q k)

theorem kernel_args {m : (ℓ : Loc Cert.KernelIdeal.nD Cert.KernelIdeal.τ Cert.KernelIdeal.sig) → Buf (Elt Ideal) ℓ}
    {r : PUnit × MemSt Cert.KernelIdeal.nD Cert.KernelIdeal.τ Cert.KernelIdeal.sig (Elt Ideal)} (hr : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(hr.1 c (Proc.devRef .tc Cert.KernelIdeal.main_arg0) (by decide)).trans (V₄_arg0 m c),
    (hr.1 c (Proc.devRef .tc Cert.KernelIdeal.main_arg1) (by decide)).trans (V₄_arg1 m c),
    (hr.1 c (Proc.devRef .tc Cert.KernelIdeal.main_arg2) (by decide)).trans (V₄_arg2 m c)⟩

theorem kernel_frame : quiescent_KernelIdeal (hKernelIdeal := Cert.KernelIdeal.Gen.facts) (hPre_finite := Cert.Pre_finite.Gen.facts) :=
  fun m ρ h => (θ_run _ _ _).mono (fun _ hr => ⟨fun c => kernel_args hr c, hr.2⟩) (kernel_run m ρ (reals m h))

theorem reference_frame : quiescent_ReferenceIdeal (hReferenceIdeal := Cert.ReferenceIdeal.Gen.facts) :=
  fun m ρ _ => (θ_run _ _ _).mono (fun r hr => ⟨fun c => (hr c).2, sem_eq_zero_of_no_sems (by decide) r.2⟩)
    (Cert.ReferenceIdeal.Value.run (F := Ideal) m ρ)

theorem agree : algebraic_KernelIdeal_ReferenceIdeal (hKernelIdeal := Cert.KernelIdeal.Gen.facts)
    (hReferenceIdeal := Cert.ReferenceIdeal.Gen.facts) (hPre_finite := Cert.Pre_finite.Gen.facts) := by
  intro m ρ m' ρ' hpre hargs
  have hR := reals m hpre
  refine ⟨fun c => V₄ m c (Proc.devRef .tc Cert.KernelIdeal.main_v9), ?_, ?_⟩
  · exact (θ_run _ _ _).mono (fun r hr c => ⟨hr.1 c (Proc.devRef .tc Cert.KernelIdeal.main_v9) (by decide), kernel_args hr c⟩) (kernel_run m ρ hR)
  · refine (θ_run _ _ _).mono (fun r hr c => ⟨(hr c).1.trans ?_, (hr c).2⟩) (Cert.ReferenceIdeal.Value.run (F := Ideal) m' ρ')
    obtain ⟨e0, e1, e2⟩ := hargs c
    refine (res_eq (F := Ideal) m' c).trans ?_
    rw [e0, e1, e2]
    exact (hR c).out.symm

/-- Everything the certificate claims. -/
theorem claim : Cert.Claim :=
  ⟨Cert.KernelIdeal.Gen.facts, Cert.ReferenceIdeal.Gen.facts, Cert.Pre_finite.Gen.facts, kernel_frame, reference_frame,
    fun m ρ _ => reference_frame m ρ trivial, agree⟩

end Cert.Proof
